-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S16x4096x8x2x64 : Shape := ⟨5, ![16, 4096, 8, 2, 64]⟩
abbrev S16x4096x8x128 : Shape := ⟨4, ![16, 4096, 8, 128]⟩
abbrev S64 : Shape := ⟨1, ![64]⟩
abbrev S128 : Shape := ⟨1, ![128]⟩
abbrev S_ : Shape := ⟨0, ![]⟩

class Facts : Prop where
  bcast_S_S16x4096x8x2x64 : S_.BroadcastsInDim S16x4096x8x2x64 (![] : Fin 0 → Fin S16x4096x8x2x64.rank)
  reducesTo_S16x4096x8x2x64_S_d0_1_2_3_4 : S16x4096x8x2x64.ReducesTo [0, 1, 2, 3, 4] S_
  h_S_ : 0 < S_.numel
  bcast_S_S16x4096x8x128 : S_.BroadcastsInDim S16x4096x8x128 (![] : Fin 0 → Fin S16x4096x8x128.rank)
  reducesTo_S16x4096x8x128_S_d0_1_2_3 : S16x4096x8x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x4096x8x2x64 .f32) (main_arg1 : FVec F S16x4096x8x2x64 .f32) (main_arg2 : FVec F S16x4096x8x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S16x4096x8x2x64 .f32 := Host.absf main_arg0
  let main_cst : FVec F S_ .f32 := constant S_ .f32 0x7F800000#32
  let main_v1 : FVec F S16x4096x8x2x64 .f32 := broadcastInDim S16x4096x8x2x64 ![] bcast_S_S16x4096x8x2x64 main_cst
  let main_v2 : IVec S16x4096x8x2x64 1 := cmpf .olt main_v0 main_v1
  let main_c : IVec S_ 1 := constantI S_ 1 1#1
  let main_v3 : IVec S_ 1 := (fun x v => Host.reduce IntOp.andi x v reducesTo_S16x4096x8x2x64_S_d0_1_2_3_4 h_S_) main_v2 main_c
  let main_v4 : FVec F S16x4096x8x2x64 .f32 := Host.absf main_arg1
  let main_cst_0 : FVec F S_ .f32 := constant S_ .f32 0x7F800000#32
  let main_v5 : FVec F S16x4096x8x2x64 .f32 := broadcastInDim S16x4096x8x2x64 ![] bcast_S_S16x4096x8x2x64 main_cst_0
  let main_v6 : IVec S16x4096x8x2x64 1 := cmpf .olt main_v4 main_v5
  let main_c_1 : IVec S_ 1 := constantI S_ 1 1#1
  let main_v7 : IVec S_ 1 := (fun x v => Host.reduce IntOp.andi x v reducesTo_S16x4096x8x2x64_S_d0_1_2_3_4 h_S_) main_v6 main_c_1
  let main_v8 : IVec S_ 1 := andi main_v3 main_v7
  let main_v9 : FVec F S16x4096x8x128 .f32 := Host.absf main_arg2
  let main_cst_2 : FVec F S_ .f32 := constant S_ .f32 0x7F800000#32
  let main_v10 : FVec F S16x4096x8x128 .f32 := broadcastInDim S16x4096x8x128 ![] bcast_S_S16x4096x8x128 main_cst_2
  let main_v11 : IVec S16x4096x8x128 1 := cmpf .olt main_v9 main_v10
  let main_c_3 : IVec S_ 1 := constantI S_ 1 1#1
  let main_v12 : IVec S_ 1 := (fun x v => Host.reduce IntOp.andi x v reducesTo_S16x4096x8x128_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16x4096x8x2x64 : Shape := ⟨5, ![16, 4096, 8, 2, 64]⟩
abbrev S16x4096x8x128 : Shape := ⟨4, ![16, 4096, 8, 128]⟩
abbrev S64 : Shape := ⟨1, ![64]⟩
abbrev S128 : Shape := ⟨1, ![128]⟩
abbrev S256x256x1024 : Shape := ⟨3, ![256, 256, 1024]⟩
abbrev S256x1024x256 : Shape := ⟨3, ![256, 1024, 256]⟩
abbrev S_ : Shape := ⟨0, ![]⟩
abbrev S65536x1024 : Shape := ⟨2, ![65536, 1024]⟩
abbrev S1x64 : Shape := ⟨2, ![1, 64]⟩
abbrev S128x1 : Shape := ⟨2, ![128, 1]⟩
abbrev S16x16x8x128x256 : Shape := ⟨5, ![16, 16, 8, 128, 256]⟩
abbrev S16x4096x1024 : Shape := ⟨3, ![16, 4096, 1024]⟩
abbrev S1x1x8x128x256 : Shape := ⟨5, ![1, 1, 8, 128, 256]⟩
abbrev S1x4096x1024 : Shape := ⟨3, ![1, 4096, 1024]⟩
abbrev S1x16x8x128x256 : Shape := ⟨5, ![1, 16, 8, 128, 256]⟩
abbrev S1x256x1024 : Shape := ⟨3, ![1, 256, 1024]⟩
abbrev S16x144x256 : Shape := ⟨3, ![16, 144, 256]⟩
abbrev S16x512x256 : Shape := ⟨3, ![16, 512, 256]⟩
abbrev S1x1x1x128x256 : Shape := ⟨5, ![1, 1, 1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S16x256 : Shape := ⟨2, ![16, 256]⟩
abbrev S1x256 : Shape := ⟨2, ![1, 256]⟩
abbrev S256 : Shape := ⟨1, ![256]⟩
abbrev S128x512 : Shape := ⟨2, ![128, 512]⟩
abbrev S16x512 : Shape := ⟨2, ![16, 512]⟩
abbrev S144x512 : Shape := ⟨2, ![144, 512]⟩
abbrev S1x144x256 : Shape := ⟨3, ![1, 144, 256]⟩
abbrev S144x256 : Shape := ⟨2, ![144, 256]⟩
abbrev S1 : Shape := ⟨1, ![1]⟩
abbrev S1x1 : Shape := ⟨2, ![1, 1]⟩
abbrev S256x256 : Shape := ⟨2, ![256, 256]⟩
abbrev S1x256x256 : Shape := ⟨3, ![1, 256, 256]⟩
abbrev S256x128 : Shape := ⟨2, ![256, 128]⟩
abbrev S1x256x128 : Shape := ⟨3, ![1, 256, 128]⟩

abbrev nBuf : Space → Nat
  | .hbm => 31
  | .vmem => 17
  | .smem => 0
  | _ => 0

abbrev bufTy : (tb : Table) → Fin (tcTables nBuf tb) → BufTy
  | .hbm, ⟨0, _⟩ => ⟨S16x4096x8x2x64, .f32⟩
  | .hbm, ⟨1, _⟩ => ⟨S16x4096x8x2x64, .f32⟩
  | .hbm, ⟨2, _⟩ => ⟨S16x4096x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S256x256x1024, .f32⟩
  | .hbm, ⟨9, _⟩ => ⟨S256x1024x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S256x1024x256, .f32⟩
  | .hbm, ⟨15, _⟩ => ⟨S256x1024x256, .f32⟩
  | .hbm, ⟨16, _⟩ => ⟨S256x1024x256, .bf16⟩
  | .hbm, ⟨17, _⟩ => ⟨S256x256x1024, .f32⟩
  | .hbm, ⟨18, _⟩ => ⟨S256x1024x256, .f32⟩
  | .hbm, ⟨19, _⟩ => ⟨S256x1024x256, .bf16⟩
  | .hbm, ⟨20, _⟩ => ⟨S65536x1024, .f32⟩
  | .hbm, ⟨21, _⟩ => ⟨S65536x1024, .bf16⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S128x1, .f32⟩
  | .hbm, ⟨27, _⟩ => ⟨S16x16x8x128x256, .bf16⟩
  | .hbm, ⟨28, _⟩ => ⟨S16x16x8x128x256, .bf16⟩
  | .hbm, ⟨29, _⟩ => ⟨S16x4096x1024, .bf16⟩
  | .hbm, ⟨30, _⟩ => ⟨S16x4096x1024, .bf16⟩
  | .local _ .vmem, ⟨0, _⟩ => ⟨S1x1x8x128x256, .bf16⟩
  | .local _ .vmem, ⟨1, _⟩ => ⟨S1x1x8x128x256, .bf16⟩
  | .local _ .vmem, ⟨2, _⟩ => ⟨S1x1x8x128x256, .bf16⟩
  | .local _ .vmem, ⟨3, _⟩ => ⟨S1x1x8x128x256, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1x16x8x128x256, .bf16⟩
  | .local _ .vmem, ⟨7, _⟩ => ⟨S1x16x8x128x256, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S128x1, .f32⟩
  | .local _ .vmem, ⟨13, _⟩ => ⟨S1x256x1024, .bf16⟩
  | .local _ .vmem, ⟨14, _⟩ => ⟨S1x256x1024, .bf16⟩
  | .local _ .vmem, ⟨15, _⟩ => ⟨S16x144x256, .f32⟩
  | .local _ .vmem, ⟨16, _⟩ => ⟨S16x512x256, .f32⟩
  | _, _ => ⟨S16x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![16, 1, 16], ![false, false, false]⟩

def k0_cond1 (i : grid0.Coords) : BitVec 1 :=
  let arg2 : BitVec 32 := BitVec.ofNat 32 (i 2).val
  let c0_i32 : BitVec 32 := 0#32
  let v180 : BitVec 1 := Scalar.cmpi .eq arg2 c0_i32
  let v181 : BitVec 32 := Scalar.extui v180
  let c0_i32_138 : BitVec 32 := 0#32
  let v182 : BitVec 1 := Scalar.cmpi .ne v181 c0_i32_138
  v182

def k0_mult1 : BitVec 32 :=
  let c0_i32_176 : BitVec 32 := 0#32
  c0_i32_176
def k0_mult2 : BitVec 32 :=
  let c0_i32_183 : BitVec 32 := 0#32
  c0_i32_183
def k0_mult3 : BitVec 32 :=
  let c0_i32_190 : BitVec 32 := 0#32
  c0_i32_190
def k0_mult4 : BitVec 32 :=
  let c0_i32_196 : BitVec 32 := 0#32
  c0_i32_196
def k0_mult5 : BitVec 32 :=
  let c0_i32_203 : BitVec 32 := 0#32
  c0_i32_203
def k0_mult6 : BitVec 32 :=
  let c0_i32_209 : BitVec 32 := 0#32
  c0_i32_209
def k0_mult7 : BitVec 32 :=
  let c0_i32_216 : BitVec 32 := 0#32
  c0_i32_216
def k0_mult8 : BitVec 32 :=
  let c0_i32_222 : BitVec 32 := 0#32
  c0_i32_222
def k0_mult9 : BitVec 32 :=
  let c0_i32_229 : BitVec 32 := 0#32
  c0_i32_229
def k0_mult10 : BitVec 32 :=
  let c0_i32_234 : BitVec 32 := 0#32
  c0_i32_234
def k0_mult11 : BitVec 32 :=
  let c0_i32_240 : BitVec 32 := 0#32
  c0_i32_240
def k0_mult12 : BitVec 32 :=
  let c0_i32_245 : BitVec 32 := 0#32
  c0_i32_245
def k0_mult13 : BitVec 32 :=
  let c0_i32_251 : BitVec 32 := 0#32
  c0_i32_251
def k0_mult14 : BitVec 32 :=
  let c0_i32_256 : BitVec 32 := 0#32
  c0_i32_256
def k0_mult15 : BitVec 32 :=
  let c0_i32_262 : BitVec 32 := 0#32
  c0_i32_262
def k0_mult16 : BitVec 32 :=
  let c0_i32_267 : BitVec 32 := 0#32
  c0_i32_267
@[reducible] def k0_t1_loop (i : grid0.Coords) : Scf.Loop 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_147 : BitVec 32 := 1#32
  ⟨c0_i32_145, v206, c1_i32_147⟩
def k0_off1 (i : grid0.Coords) (k0_t1 : Fin (k0_t1_loop i).trips) (c0_i32_181 : BitVec 32) : Fin 5 → Nat :=
  let c0_182 : Index := 0#32
  let c2_i32_176 : BitVec 32 := 2#32
  let c0_i32_145 : BitVec 32 := 0#32
  let c1_i32_147 : BitVec 32 := 1#32
  let arg15 : BitVec 32 := Scf.iv c0_i32_145 c1_i32_147 k0_t1
  let v256 : BitVec 32 := Scalar.muli c2_i32_176 arg15
  let v267 : BitVec 32 := Scalar.addi v256 c0_i32_181
  let v268 : Index := Scalar.indexCast v267
  let c0_183 : Index := 0#32
  let c0_184 : Index := 0#32
  let c0_185 : Index := 0#32
  ![0, v268.toNat, 0, 0, 0]
def k0_mult17 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_200 : BitVec 32 := 1#32
  let v294 : BitVec 32 := Scalar.addi arg15 c1_i32_200
  let c512_i32 : BitVec 32 := 512#32
  let v295 : BitVec 32 := Scalar.muli v294 c512_i32
  v295
def k0_off2 (i : grid0.Coords) (k0_t1 : Fin (k0_t1_loop i).trips) : Fin 3 → Nat :=
  let c0_201 : Index := 0#32
  let c0_i32_145 : BitVec 32 := 0#32
  let c1_i32_147 : BitVec 32 := 1#32
  let arg15 : BitVec 32 := Scf.iv c0_i32_145 c1_i32_147 k0_t1
  let c1_i32_200 : BitVec 32 := 1#32
  let v294 : BitVec 32 := Scalar.addi arg15 c1_i32_200
  let c512_i32 : BitVec 32 := 512#32
  let v295 : BitVec 32 := Scalar.muli v294 c512_i32
  let v296 : BitVec 32 := v295
  let v297 : Index := Scalar.indexCast v296
  let c0_202 : Index := 0#32
  ![0, v297.toNat, 0]
def k0_mult18 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_231 : BitVec 32 := 1#32
  let v342 : BitVec 32 := Scalar.addi arg15 c1_i32_231
  let c512_i32_232 : BitVec 32 := 512#32
  let v343 : BitVec 32 := Scalar.muli v342 c512_i32_232
  v343
def k0_off3 (i : grid0.Coords) (k0_t1 : Fin (k0_t1_loop i).trips) (c0_i32_244 : BitVec 32) : Fin 5 → Nat :=
  let c0_245 : Index := 0#32
  let c2_i32_239 : BitVec 32 := 2#32
  let c0_i32_145 : BitVec 32 := 0#32
  let c1_i32_147 : BitVec 32 := 1#32
  let arg15 : BitVec 32 := Scf.iv c0_i32_145 c1_i32_147 k0_t1
  let v352 : BitVec 32 := Scalar.muli c2_i32_239 arg15
  let v363 : BitVec 32 := Scalar.addi v352 c0_i32_244
  let v364 : Index := Scalar.indexCast v363
  let c1_246 : Index := 1#32
  let c0_247 : Index := 0#32
  let c0_248 : Index := 0#32
  ![0, v364.toNat, 1, 0, 0]
def k0_mult19 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_263 : BitVec 32 := 1#32
  let v390 : BitVec 32 := Scalar.addi arg15 c1_i32_263
  let c512_i32_264 : BitVec 32 := 512#32
  let v391 : BitVec 32 := Scalar.muli v390 c512_i32_264
  v391
def k0_off4 (i : grid0.Coords) (k0_t1 : Fin (k0_t1_loop i).trips) : Fin 3 → Nat :=
  let c0_265 : Index := 0#32
  let c0_i32_145 : BitVec 32 := 0#32
  let c1_i32_147 : BitVec 32 := 1#32
  let arg15 : BitVec 32 := Scf.iv c0_i32_145 c1_i32_147 k0_t1
  let c1_i32_263 : BitVec 32 := 1#32
  let v390 : BitVec 32 := Scalar.addi arg15 c1_i32_263
  let c512_i32_264 : BitVec 32 := 512#32
  let v391 : BitVec 32 := Scalar.muli v390 c512_i32_264
  let v392 : BitVec 32 := v391
  let v393 : Index := Scalar.indexCast v392
  let c128 : Index := 128#32
  ![0, v393.toNat, 128]
def k0_mult20 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_293 : BitVec 32 := 1#32
  let v438 : BitVec 32 := Scalar.addi arg15 c1_i32_293
  let c512_i32_294 : BitVec 32 := 512#32
  let v439 : BitVec 32 := Scalar.muli v438 c512_i32_294
  v439
def k0_off5 (i : grid0.Coords) (k0_t1 : Fin (k0_t1_loop i).trips) (c0_i32_306 : BitVec 32) : Fin 5 → Nat :=
  let c0_307 : Index := 0#32
  let c2_i32_301 : BitVec 32 := 2#32
  let c0_i32_145 : BitVec 32 := 0#32
  let c1_i32_147 : BitVec 32 := 1#32
  let arg15 : BitVec 32 := Scf.iv c0_i32_145 c1_i32_147 k0_t1
  let v448 : BitVec 32 := Scalar.muli c2_i32_301 arg15
  let v459 : BitVec 32 := Scalar.addi v448 c0_i32_306
  let v460 : Index := Scalar.indexCast v459
  let c2_308 : Index := 2#32
  let c0_309 : Index := 0#32
  let c0_310 : Index := 0#32
  ![0, v460.toNat, 2, 0, 0]
def k0_mult21 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_324 : BitVec 32 := 1#32
  let v486 : BitVec 32 := Scalar.addi arg15 c1_i32_324
  let c512_i32_325 : BitVec 32 := 512#32
  let v487 : BitVec 32 := Scalar.muli v486 c512_i32_325
  v487
def k0_off6 (i : grid0.Coords) (k0_t1 : Fin (k0_t1_loop i).trips) : Fin 3 → Nat :=
  let c0_326 : Index := 0#32
  let c0_i32_145 : BitVec 32 := 0#32
  let c1_i32_147 : BitVec 32 := 1#32
  let arg15 : BitVec 32 := Scf.iv c0_i32_145 c1_i32_147 k0_t1
  let c1_i32_324 : BitVec 32 := 1#32
  let v486 : BitVec 32 := Scalar.addi arg15 c1_i32_324
  let c512_i32_325 : BitVec 32 := 512#32
  let v487 : BitVec 32 := Scalar.muli v486 c512_i32_325
  let v488 : BitVec 32 := v487
  let v489 : Index := Scalar.indexCast v488
  let c256 : Index := 256#32
  ![0, v489.toNat, 256]
def k0_mult22 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_354 : BitVec 32 := 1#32
  let v534 : BitVec 32 := Scalar.addi arg15 c1_i32_354
  let c512_i32_355 : BitVec 32 := 512#32
  let v535 : BitVec 32 := Scalar.muli v534 c512_i32_355
  v535
def k0_off7 (i : grid0.Coords) (k0_t1 : Fin (k0_t1_loop i).trips) (c0_i32_367 : BitVec 32) : Fin 5 → Nat :=
  let c0_368 : Index := 0#32
  let c2_i32_362 : BitVec 32 := 2#32
  let c0_i32_145 : BitVec 32 := 0#32
  let c1_i32_147 : BitVec 32 := 1#32
  let arg15 : BitVec 32 := Scf.iv c0_i32_145 c1_i32_147 k0_t1
  let v544 : BitVec 32 := Scalar.muli c2_i32_362 arg15
  let v555 : BitVec 32 := Scalar.addi v544 c0_i32_367
  let v556 : Index := Scalar.indexCast v555
  let c3_369 : Index := 3#32
  let c0_370 : Index := 0#32
  let c0_371 : Index := 0#32
  ![0, v556.toNat, 3, 0, 0]
def k0_mult23 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_385 : BitVec 32 := 1#32
  let v582 : BitVec 32 := Scalar.addi arg15 c1_i32_385
  let c512_i32_386 : BitVec 32 := 512#32
  let v583 : BitVec 32 := Scalar.muli v582 c512_i32_386
  v583
def k0_off8 (i : grid0.Coords) (k0_t1 : Fin (k0_t1_loop i).trips) : Fin 3 → Nat :=
  let c0_387 : Index := 0#32
  let c0_i32_145 : BitVec 32 := 0#32
  let c1_i32_147 : BitVec 32 := 1#32
  let arg15 : BitVec 32 := Scf.iv c0_i32_145 c1_i32_147 k0_t1
  let c1_i32_385 : BitVec 32 := 1#32
  let v582 : BitVec 32 := Scalar.addi arg15 c1_i32_385
  let c512_i32_386 : BitVec 32 := 512#32
  let v583 : BitVec 32 := Scalar.muli v582 c512_i32_386
  let v584 : BitVec 32 := v583
  let v585 : Index := Scalar.indexCast v584
  let c384 : Index := 384#32
  ![0, v585.toNat, 384]
def k0_mult24 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_415 : BitVec 32 := 1#32
  let v630 : BitVec 32 := Scalar.addi arg15 c1_i32_415
  let c512_i32_416 : BitVec 32 := 512#32
  let v631 : BitVec 32 := Scalar.muli v630 c512_i32_416
  v631
def k0_off9 (i : grid0.Coords) (k0_t1 : Fin (k0_t1_loop i).trips) (c0_i32_427 : BitVec 32) : Fin 5 → Nat :=
  let c0_428 : Index := 0#32
  let c2_i32_423 : BitVec 32 := 2#32
  let c0_i32_145 : BitVec 32 := 0#32
  let c1_i32_147 : BitVec 32 := 1#32
  let arg15 : BitVec 32 := Scf.iv c0_i32_145 c1_i32_147 k0_t1
  let v640 : BitVec 32 := Scalar.muli c2_i32_423 arg15
  let v651 : BitVec 32 := Scalar.addi v640 c0_i32_427
  let v652 : Index := Scalar.indexCast v651
  let c4_429 : Index := 4#32
  let c0_430 : Index := 0#32
  let c0_431 : Index := 0#32
  ![0, v652.toNat, 4, 0, 0]
def k0_mult25 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_445 : BitVec 32 := 1#32
  let v678 : BitVec 32 := Scalar.addi arg15 c1_i32_445
  let c512_i32_446 : BitVec 32 := 512#32
  let v679 : BitVec 32 := Scalar.muli v678 c512_i32_446
  v679
def k0_off10 (i : grid0.Coords) (k0_t1 : Fin (k0_t1_loop i).trips) : Fin 3 → Nat :=
  let c0_447 : Index := 0#32
  let c0_i32_145 : BitVec 32 := 0#32
  let c1_i32_147 : BitVec 32 := 1#32
  let arg15 : BitVec 32 := Scf.iv c0_i32_145 c1_i32_147 k0_t1
  let c1_i32_445 : BitVec 32 := 1#32
  let v678 : BitVec 32 := Scalar.addi arg15 c1_i32_445
  let c512_i32_446 : BitVec 32 := 512#32
  let v679 : BitVec 32 := Scalar.muli v678 c512_i32_446
  let v680 : BitVec 32 := v679
  let v681 : Index := Scalar.indexCast v680
  let c512 : Index := 512#32
  ![0, v681.toNat, 512]
def k0_mult26 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_474 : BitVec 32 := 1#32
  let v726 : BitVec 32 := Scalar.addi arg15 c1_i32_474
  let c512_i32_475 : BitVec 32 := 512#32
  let v727 : BitVec 32 := Scalar.muli v726 c512_i32_475
  v727
def k0_off11 (i : grid0.Coords) (k0_t1 : Fin (k0_t1_loop i).trips) (c0_i32_486 : BitVec 32) : Fin 5 → Nat :=
  let c0_487 : Index := 0#32
  let c2_i32_482 : BitVec 32 := 2#32
  let c0_i32_145 : BitVec 32 := 0#32
  let c1_i32_147 : BitVec 32 := 1#32
  let arg15 : BitVec 32 := Scf.iv c0_i32_145 c1_i32_147 k0_t1
  let v736 : BitVec 32 := Scalar.muli c2_i32_482 arg15
  let v747 : BitVec 32 := Scalar.addi v736 c0_i32_486
  let v748 : Index := Scalar.indexCast v747
  let c5_488 : Index := 5#32
  let c0_489 : Index := 0#32
  let c0_490 : Index := 0#32
  ![0, v748.toNat, 5, 0, 0]
def k0_mult27 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_504 : BitVec 32 := 1#32
  let v774 : BitVec 32 := Scalar.addi arg15 c1_i32_504
  let c512_i32_505 : BitVec 32 := 512#32
  let v775 : BitVec 32 := Scalar.muli v774 c512_i32_505
  v775
def k0_off12 (i : grid0.Coords) (k0_t1 : Fin (k0_t1_loop i).trips) : Fin 3 → Nat :=
  let c0_506 : Index := 0#32
  let c0_i32_145 : BitVec 32 := 0#32
  let c1_i32_147 : BitVec 32 := 1#32
  let arg15 : BitVec 32 := Scf.iv c0_i32_145 c1_i32_147 k0_t1
  let c1_i32_504 : BitVec 32 := 1#32
  let v774 : BitVec 32 := Scalar.addi arg15 c1_i32_504
  let c512_i32_505 : BitVec 32 := 512#32
  let v775 : BitVec 32 := Scalar.muli v774 c512_i32_505
  let v776 : BitVec 32 := v775
  let v777 : Index := Scalar.indexCast v776
  let c640 : Index := 640#32
  ![0, v777.toNat, 640]
def k0_mult28 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_533 : BitVec 32 := 1#32
  let v822 : BitVec 32 := Scalar.addi arg15 c1_i32_533
  let c512_i32_534 : BitVec 32 := 512#32
  let v823 : BitVec 32 := Scalar.muli v822 c512_i32_534
  v823
def k0_off13 (i : grid0.Coords) (k0_t1 : Fin (k0_t1_loop i).trips) (c0_i32_545 : BitVec 32) : Fin 5 → Nat :=
  let c0_546 : Index := 0#32
  let c2_i32_541 : BitVec 32 := 2#32
  let c0_i32_145 : BitVec 32 := 0#32
  let c1_i32_147 : BitVec 32 := 1#32
  let arg15 : BitVec 32 := Scf.iv c0_i32_145 c1_i32_147 k0_t1
  let v832 : BitVec 32 := Scalar.muli c2_i32_541 arg15
  let v843 : BitVec 32 := Scalar.addi v832 c0_i32_545
  let v844 : Index := Scalar.indexCast v843
  let c6_547 : Index := 6#32
  let c0_548 : Index := 0#32
  let c0_549 : Index := 0#32
  ![0, v844.toNat, 6, 0, 0]
def k0_mult29 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_563 : BitVec 32 := 1#32
  let v870 : BitVec 32 := Scalar.addi arg15 c1_i32_563
  let c512_i32_564 : BitVec 32 := 512#32
  let v871 : BitVec 32 := Scalar.muli v870 c512_i32_564
  v871
def k0_off14 (i : grid0.Coords) (k0_t1 : Fin (k0_t1_loop i).trips) : Fin 3 → Nat :=
  let c0_565 : Index := 0#32
  let c0_i32_145 : BitVec 32 := 0#32
  let c1_i32_147 : BitVec 32 := 1#32
  let arg15 : BitVec 32 := Scf.iv c0_i32_145 c1_i32_147 k0_t1
  let c1_i32_563 : BitVec 32 := 1#32
  let v870 : BitVec 32 := Scalar.addi arg15 c1_i32_563
  let c512_i32_564 : BitVec 32 := 512#32
  let v871 : BitVec 32 := Scalar.muli v870 c512_i32_564
  let v872 : BitVec 32 := v871
  let v873 : Index := Scalar.indexCast v872
  let c768 : Index := 768#32
  ![0, v873.toNat, 768]
def k0_mult30 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_592 : BitVec 32 := 1#32
  let v918 : BitVec 32 := Scalar.addi arg15 c1_i32_592
  let c512_i32_593 : BitVec 32 := 512#32
  let v919 : BitVec 32 := Scalar.muli v918 c512_i32_593
  v919
def k0_off15 (i : grid0.Coords) (k0_t1 : Fin (k0_t1_loop i).trips) (c0_i32_604 : BitVec 32) : Fin 5 → Nat :=
  let c0_605 : Index := 0#32
  let c2_i32_600 : BitVec 32 := 2#32
  let c0_i32_145 : BitVec 32 := 0#32
  let c1_i32_147 : BitVec 32 := 1#32
  let arg15 : BitVec 32 := Scf.iv c0_i32_145 c1_i32_147 k0_t1
  let v928 : BitVec 32 := Scalar.muli c2_i32_600 arg15
  let v939 : BitVec 32 := Scalar.addi v928 c0_i32_604
  let v940 : Index := Scalar.indexCast v939
  let c7_606 : Index := 7#32
  let c0_607 : Index := 0#32
  let c0_608 : Index := 0#32
  ![0, v940.toNat, 7, 0, 0]
def k0_mult31 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_622 : BitVec 32 := 1#32
  let v966 : BitVec 32 := Scalar.addi arg15 c1_i32_622
  let c512_i32_623 : BitVec 32 := 512#32
  let v967 : BitVec 32 := Scalar.muli v966 c512_i32_623
  v967
def k0_off16 (i : grid0.Coords) (k0_t1 : Fin (k0_t1_loop i).trips) : Fin 3 → Nat :=
  let c0_624 : Index := 0#32
  let c0_i32_145 : BitVec 32 := 0#32
  let c1_i32_147 : BitVec 32 := 1#32
  let arg15 : BitVec 32 := Scf.iv c0_i32_145 c1_i32_147 k0_t1
  let c1_i32_622 : BitVec 32 := 1#32
  let v966 : BitVec 32 := Scalar.addi arg15 c1_i32_622
  let c512_i32_623 : BitVec 32 := 512#32
  let v967 : BitVec 32 := Scalar.muli v966 c512_i32_623
  let v968 : BitVec 32 := v967
  let v969 : Index := Scalar.indexCast v968
  let c896 : Index := 896#32
  ![0, v969.toNat, 896]
def k0_mult32 (i : grid0.Coords) (k0_t1 : Fin (k0_t1_loop i).trips) : BitVec 32 :=
  let c0_i32_145 : BitVec 32 := 0#32
  let c1_i32_147 : BitVec 32 := 1#32
  let arg15 : BitVec 32 := Scf.iv c0_i32_145 c1_i32_147 k0_t1
  let c1_i32_651 : BitVec 32 := 1#32
  let v1014 : BitVec 32 := Scalar.addi arg15 c1_i32_651
  let c512_i32_652 : BitVec 32 := 512#32
  let v1015 : BitVec 32 := Scalar.muli v1014 c512_i32_652
  v1015
@[reducible] def k0_t2_loop (i : grid0.Coords) : Scf.Loop 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let v203 : BitVec 32 := Scalar.addi c0_i32_145 v202
  let c1_i32_148 : BitVec 32 := 1#32
  ⟨v206, v203, c1_i32_148⟩
def k0_off17 (i : grid0.Coords) (k0_t2 : Fin (k0_t2_loop i).trips) (c0_i32_181 : BitVec 32) : Fin 5 → Nat :=
  let c0_182 : Index := 0#32
  let c2_i32_176 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v256 : BitVec 32 := Scalar.muli c2_i32_176 arg15
  let v267 : BitVec 32 := Scalar.addi v256 c0_i32_181
  let v268 : Index := Scalar.indexCast v267
  let c0_183 : Index := 0#32
  let c0_184 : Index := 0#32
  let c0_185 : Index := 0#32
  ![0, v268.toNat, 0, 0, 0]
def k0_mult33 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_200 : BitVec 32 := 1#32
  let v294 : BitVec 32 := Scalar.addi arg15 c1_i32_200
  let c512_i32 : BitVec 32 := 512#32
  let v295 : BitVec 32 := Scalar.muli v294 c512_i32
  v295
def k0_off18 (i : grid0.Coords) (k0_t2 : Fin (k0_t2_loop i).trips) : Fin 3 → Nat :=
  let c0_201 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_200 : BitVec 32 := 1#32
  let v294 : BitVec 32 := Scalar.addi arg15 c1_i32_200
  let c512_i32 : BitVec 32 := 512#32
  let v295 : BitVec 32 := Scalar.muli v294 c512_i32
  let v296 : BitVec 32 := v295
  let v297 : Index := Scalar.indexCast v296
  let c0_202 : Index := 0#32
  ![0, v297.toNat, 0]
def k0_mult34 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_231 : BitVec 32 := 1#32
  let v342 : BitVec 32 := Scalar.addi arg15 c1_i32_231
  let c512_i32_232 : BitVec 32 := 512#32
  let v343 : BitVec 32 := Scalar.muli v342 c512_i32_232
  v343
def k0_off19 (i : grid0.Coords) (k0_t2 : Fin (k0_t2_loop i).trips) (c0_i32_244 : BitVec 32) : Fin 5 → Nat :=
  let c0_245 : Index := 0#32
  let c2_i32_239 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v352 : BitVec 32 := Scalar.muli c2_i32_239 arg15
  let v363 : BitVec 32 := Scalar.addi v352 c0_i32_244
  let v364 : Index := Scalar.indexCast v363
  let c1_246 : Index := 1#32
  let c0_247 : Index := 0#32
  let c0_248 : Index := 0#32
  ![0, v364.toNat, 1, 0, 0]
def k0_mult35 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_263 : BitVec 32 := 1#32
  let v390 : BitVec 32 := Scalar.addi arg15 c1_i32_263
  let c512_i32_264 : BitVec 32 := 512#32
  let v391 : BitVec 32 := Scalar.muli v390 c512_i32_264
  v391
def k0_off20 (i : grid0.Coords) (k0_t2 : Fin (k0_t2_loop i).trips) : Fin 3 → Nat :=
  let c0_265 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_263 : BitVec 32 := 1#32
  let v390 : BitVec 32 := Scalar.addi arg15 c1_i32_263
  let c512_i32_264 : BitVec 32 := 512#32
  let v391 : BitVec 32 := Scalar.muli v390 c512_i32_264
  let v392 : BitVec 32 := v391
  let v393 : Index := Scalar.indexCast v392
  let c128 : Index := 128#32
  ![0, v393.toNat, 128]
def k0_mult36 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_293 : BitVec 32 := 1#32
  let v438 : BitVec 32 := Scalar.addi arg15 c1_i32_293
  let c512_i32_294 : BitVec 32 := 512#32
  let v439 : BitVec 32 := Scalar.muli v438 c512_i32_294
  v439
def k0_off21 (i : grid0.Coords) (k0_t2 : Fin (k0_t2_loop i).trips) (c0_i32_306 : BitVec 32) : Fin 5 → Nat :=
  let c0_307 : Index := 0#32
  let c2_i32_301 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v448 : BitVec 32 := Scalar.muli c2_i32_301 arg15
  let v459 : BitVec 32 := Scalar.addi v448 c0_i32_306
  let v460 : Index := Scalar.indexCast v459
  let c2_308 : Index := 2#32
  let c0_309 : Index := 0#32
  let c0_310 : Index := 0#32
  ![0, v460.toNat, 2, 0, 0]
def k0_mult37 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_324 : BitVec 32 := 1#32
  let v486 : BitVec 32 := Scalar.addi arg15 c1_i32_324
  let c512_i32_325 : BitVec 32 := 512#32
  let v487 : BitVec 32 := Scalar.muli v486 c512_i32_325
  v487
def k0_off22 (i : grid0.Coords) (k0_t2 : Fin (k0_t2_loop i).trips) : Fin 3 → Nat :=
  let c0_326 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_324 : BitVec 32 := 1#32
  let v486 : BitVec 32 := Scalar.addi arg15 c1_i32_324
  let c512_i32_325 : BitVec 32 := 512#32
  let v487 : BitVec 32 := Scalar.muli v486 c512_i32_325
  let v488 : BitVec 32 := v487
  let v489 : Index := Scalar.indexCast v488
  let c256 : Index := 256#32
  ![0, v489.toNat, 256]
def k0_mult38 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_354 : BitVec 32 := 1#32
  let v534 : BitVec 32 := Scalar.addi arg15 c1_i32_354
  let c512_i32_355 : BitVec 32 := 512#32
  let v535 : BitVec 32 := Scalar.muli v534 c512_i32_355
  v535
def k0_off23 (i : grid0.Coords) (k0_t2 : Fin (k0_t2_loop i).trips) (c0_i32_367 : BitVec 32) : Fin 5 → Nat :=
  let c0_368 : Index := 0#32
  let c2_i32_362 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v544 : BitVec 32 := Scalar.muli c2_i32_362 arg15
  let v555 : BitVec 32 := Scalar.addi v544 c0_i32_367
  let v556 : Index := Scalar.indexCast v555
  let c3_369 : Index := 3#32
  let c0_370 : Index := 0#32
  let c0_371 : Index := 0#32
  ![0, v556.toNat, 3, 0, 0]
def k0_mult39 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_385 : BitVec 32 := 1#32
  let v582 : BitVec 32 := Scalar.addi arg15 c1_i32_385
  let c512_i32_386 : BitVec 32 := 512#32
  let v583 : BitVec 32 := Scalar.muli v582 c512_i32_386
  v583
def k0_off24 (i : grid0.Coords) (k0_t2 : Fin (k0_t2_loop i).trips) : Fin 3 → Nat :=
  let c0_387 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_385 : BitVec 32 := 1#32
  let v582 : BitVec 32 := Scalar.addi arg15 c1_i32_385
  let c512_i32_386 : BitVec 32 := 512#32
  let v583 : BitVec 32 := Scalar.muli v582 c512_i32_386
  let v584 : BitVec 32 := v583
  let v585 : Index := Scalar.indexCast v584
  let c384 : Index := 384#32
  ![0, v585.toNat, 384]
def k0_mult40 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_415 : BitVec 32 := 1#32
  let v630 : BitVec 32 := Scalar.addi arg15 c1_i32_415
  let c512_i32_416 : BitVec 32 := 512#32
  let v631 : BitVec 32 := Scalar.muli v630 c512_i32_416
  v631
def k0_off25 (i : grid0.Coords) (k0_t2 : Fin (k0_t2_loop i).trips) (c0_i32_427 : BitVec 32) : Fin 5 → Nat :=
  let c0_428 : Index := 0#32
  let c2_i32_423 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v640 : BitVec 32 := Scalar.muli c2_i32_423 arg15
  let v651 : BitVec 32 := Scalar.addi v640 c0_i32_427
  let v652 : Index := Scalar.indexCast v651
  let c4_429 : Index := 4#32
  let c0_430 : Index := 0#32
  let c0_431 : Index := 0#32
  ![0, v652.toNat, 4, 0, 0]
def k0_mult41 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_445 : BitVec 32 := 1#32
  let v678 : BitVec 32 := Scalar.addi arg15 c1_i32_445
  let c512_i32_446 : BitVec 32 := 512#32
  let v679 : BitVec 32 := Scalar.muli v678 c512_i32_446
  v679
def k0_off26 (i : grid0.Coords) (k0_t2 : Fin (k0_t2_loop i).trips) : Fin 3 → Nat :=
  let c0_447 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_445 : BitVec 32 := 1#32
  let v678 : BitVec 32 := Scalar.addi arg15 c1_i32_445
  let c512_i32_446 : BitVec 32 := 512#32
  let v679 : BitVec 32 := Scalar.muli v678 c512_i32_446
  let v680 : BitVec 32 := v679
  let v681 : Index := Scalar.indexCast v680
  let c512 : Index := 512#32
  ![0, v681.toNat, 512]
def k0_mult42 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_474 : BitVec 32 := 1#32
  let v726 : BitVec 32 := Scalar.addi arg15 c1_i32_474
  let c512_i32_475 : BitVec 32 := 512#32
  let v727 : BitVec 32 := Scalar.muli v726 c512_i32_475
  v727
def k0_off27 (i : grid0.Coords) (k0_t2 : Fin (k0_t2_loop i).trips) (c0_i32_486 : BitVec 32) : Fin 5 → Nat :=
  let c0_487 : Index := 0#32
  let c2_i32_482 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v736 : BitVec 32 := Scalar.muli c2_i32_482 arg15
  let v747 : BitVec 32 := Scalar.addi v736 c0_i32_486
  let v748 : Index := Scalar.indexCast v747
  let c5_488 : Index := 5#32
  let c0_489 : Index := 0#32
  let c0_490 : Index := 0#32
  ![0, v748.toNat, 5, 0, 0]
def k0_mult43 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_504 : BitVec 32 := 1#32
  let v774 : BitVec 32 := Scalar.addi arg15 c1_i32_504
  let c512_i32_505 : BitVec 32 := 512#32
  let v775 : BitVec 32 := Scalar.muli v774 c512_i32_505
  v775
def k0_off28 (i : grid0.Coords) (k0_t2 : Fin (k0_t2_loop i).trips) : Fin 3 → Nat :=
  let c0_506 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_504 : BitVec 32 := 1#32
  let v774 : BitVec 32 := Scalar.addi arg15 c1_i32_504
  let c512_i32_505 : BitVec 32 := 512#32
  let v775 : BitVec 32 := Scalar.muli v774 c512_i32_505
  let v776 : BitVec 32 := v775
  let v777 : Index := Scalar.indexCast v776
  let c640 : Index := 640#32
  ![0, v777.toNat, 640]
def k0_mult44 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_533 : BitVec 32 := 1#32
  let v822 : BitVec 32 := Scalar.addi arg15 c1_i32_533
  let c512_i32_534 : BitVec 32 := 512#32
  let v823 : BitVec 32 := Scalar.muli v822 c512_i32_534
  v823
def k0_off29 (i : grid0.Coords) (k0_t2 : Fin (k0_t2_loop i).trips) (c0_i32_545 : BitVec 32) : Fin 5 → Nat :=
  let c0_546 : Index := 0#32
  let c2_i32_541 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v832 : BitVec 32 := Scalar.muli c2_i32_541 arg15
  let v843 : BitVec 32 := Scalar.addi v832 c0_i32_545
  let v844 : Index := Scalar.indexCast v843
  let c6_547 : Index := 6#32
  let c0_548 : Index := 0#32
  let c0_549 : Index := 0#32
  ![0, v844.toNat, 6, 0, 0]
def k0_mult45 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_563 : BitVec 32 := 1#32
  let v870 : BitVec 32 := Scalar.addi arg15 c1_i32_563
  let c512_i32_564 : BitVec 32 := 512#32
  let v871 : BitVec 32 := Scalar.muli v870 c512_i32_564
  v871
def k0_off30 (i : grid0.Coords) (k0_t2 : Fin (k0_t2_loop i).trips) : Fin 3 → Nat :=
  let c0_565 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_563 : BitVec 32 := 1#32
  let v870 : BitVec 32 := Scalar.addi arg15 c1_i32_563
  let c512_i32_564 : BitVec 32 := 512#32
  let v871 : BitVec 32 := Scalar.muli v870 c512_i32_564
  let v872 : BitVec 32 := v871
  let v873 : Index := Scalar.indexCast v872
  let c768 : Index := 768#32
  ![0, v873.toNat, 768]
def k0_mult46 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_592 : BitVec 32 := 1#32
  let v918 : BitVec 32 := Scalar.addi arg15 c1_i32_592
  let c512_i32_593 : BitVec 32 := 512#32
  let v919 : BitVec 32 := Scalar.muli v918 c512_i32_593
  v919
def k0_off31 (i : grid0.Coords) (k0_t2 : Fin (k0_t2_loop i).trips) (c0_i32_604 : BitVec 32) : Fin 5 → Nat :=
  let c0_605 : Index := 0#32
  let c2_i32_600 : BitVec 32 := 2#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let v928 : BitVec 32 := Scalar.muli c2_i32_600 arg15
  let v939 : BitVec 32 := Scalar.addi v928 c0_i32_604
  let v940 : Index := Scalar.indexCast v939
  let c7_606 : Index := 7#32
  let c0_607 : Index := 0#32
  let c0_608 : Index := 0#32
  ![0, v940.toNat, 7, 0, 0]
def k0_mult47 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_622 : BitVec 32 := 1#32
  let v966 : BitVec 32 := Scalar.addi arg15 c1_i32_622
  let c512_i32_623 : BitVec 32 := 512#32
  let v967 : BitVec 32 := Scalar.muli v966 c512_i32_623
  v967
def k0_off32 (i : grid0.Coords) (k0_t2 : Fin (k0_t2_loop i).trips) : Fin 3 → Nat :=
  let c0_624 : Index := 0#32
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_622 : BitVec 32 := 1#32
  let v966 : BitVec 32 := Scalar.addi arg15 c1_i32_622
  let c512_i32_623 : BitVec 32 := 512#32
  let v967 : BitVec 32 := Scalar.muli v966 c512_i32_623
  let v968 : BitVec 32 := v967
  let v969 : Index := Scalar.indexCast v968
  let c896 : Index := 896#32
  ![0, v969.toNat, 896]
def k0_mult48 (i : grid0.Coords) (k0_t2 : Fin (k0_t2_loop i).trips) : BitVec 32 :=
  let c0_i32_145 : BitVec 32 := 0#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v202 : BitVec 32 := Scalar.subi v200 c0_i32_145
  let c1_i32_146 : BitVec 32 := 1#32
  let v204 : BitVec 32 := Scalar.divsi v202 c1_i32_146
  let v205 : BitVec 32 := Scalar.muli v204 c1_i32_146
  let v206 : BitVec 32 := Scalar.addi c0_i32_145 v205
  let c1_i32_148 : BitVec 32 := 1#32
  let arg15 : BitVec 32 := Scf.iv v206 c1_i32_148 k0_t2
  let c1_i32_651 : BitVec 32 := 1#32
  let v1014 : BitVec 32 := Scalar.addi arg15 c1_i32_651
  let c512_i32_652 : BitVec 32 := 512#32
  let v1015 : BitVec 32 := Scalar.muli v1014 c512_i32_652
  v1015
def k0_cond2 (i : grid0.Coords) : BitVec 1 :=
  let arg2 : BitVec 32 := BitVec.ofNat 32 (i 2).val
  let c2_i32_160 : BitVec 32 := 2#32
  let c0_i32_161 : BitVec 32 := 0#32
  let v230 : BitVec 1 := Scalar.cmpi .eq c2_i32_160 c0_i32_161
  let c1_i32_162 : BitVec 32 := 1#32
  let v231 : BitVec 32 := Scalar.select v230 c1_i32_162 c2_i32_160
  let v232 : BitVec 32 := Scalar.remsi arg2 v231
  let c0_i32_164 : BitVec 32 := 0#32
  let v234 : BitVec 1 := Scalar.cmpi .slt v232 c0_i32_164
  let c0_i32_165 : BitVec 32 := 0#32
  let v235 : BitVec 1 := Scalar.cmpi .slt v231 c0_i32_165
  let v236 : BitVec 1 := Scalar.xori v234 v235
  let c0_i32_163 : BitVec 32 := 0#32
  let v233 : BitVec 1 := Scalar.cmpi .ne v232 c0_i32_163
  let v237 : BitVec 1 := Scalar.andi v236 v233
  let v238 : BitVec 32 := Scalar.addi v232 v231
  let v239 : BitVec 32 := Scalar.select v237 v238 v232
  let c0_i32_166 : BitVec 32 := 0#32
  let v240 : BitVec 1 := Scalar.cmpi .eq v239 c0_i32_166
  let v241 : BitVec 32 := Scalar.extui v240
  let c0_i32_167 : BitVec 32 := 0#32
  let v242 : BitVec 1 := Scalar.cmpi .ne v241 c0_i32_167
  v242

def k0_off33 (i : grid0.Coords) : Fin 5 → Nat :=
  let c0_183 : Index := 0#32
  let c2_i32_176 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v258 : BitVec 32 := Scalar.muli c2_i32_176 v200
  let c0_i32_182 : BitVec 32 := 0#32
  let v271 : BitVec 32 := Scalar.addi v258 c0_i32_182
  let v272 : Index := Scalar.indexCast v271
  let c0_184 : Index := 0#32
  let c0_185 : Index := 0#32
  let c0_186 : Index := 0#32
  ![0, v272.toNat, 0, 0, 0]
def k0_mult49 : BitVec 32 :=
  let c0_i32_195 : BitVec 32 := 0#32
  c0_i32_195
def k0_mult50 : BitVec 32 :=
  let c0_i32_221 : BitVec 32 := 0#32
  c0_i32_221
def k0_off34 (i : grid0.Coords) : Fin 5 → Nat :=
  let c0_250 : Index := 0#32
  let c2_i32_243 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v370 : BitVec 32 := Scalar.muli c2_i32_243 v200
  let c0_i32_249 : BitVec 32 := 0#32
  let v383 : BitVec 32 := Scalar.addi v370 c0_i32_249
  let v384 : Index := Scalar.indexCast v383
  let c1_251 : Index := 1#32
  let c0_252 : Index := 0#32
  let c0_253 : Index := 0#32
  ![0, v384.toNat, 1, 0, 0]
def k0_mult51 : BitVec 32 :=
  let c0_i32_262 : BitVec 32 := 0#32
  c0_i32_262
def k0_mult52 : BitVec 32 :=
  let c0_i32_287 : BitVec 32 := 0#32
  c0_i32_287
def k0_off35 (i : grid0.Coords) : Fin 5 → Nat :=
  let c0_316 : Index := 0#32
  let c2_i32_309 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v482 : BitVec 32 := Scalar.muli c2_i32_309 v200
  let c0_i32_315 : BitVec 32 := 0#32
  let v495 : BitVec 32 := Scalar.addi v482 c0_i32_315
  let v496 : Index := Scalar.indexCast v495
  let c2_317 : Index := 2#32
  let c0_318 : Index := 0#32
  let c0_319 : Index := 0#32
  ![0, v496.toNat, 2, 0, 0]
def k0_mult53 : BitVec 32 :=
  let c0_i32_328 : BitVec 32 := 0#32
  c0_i32_328
def k0_mult54 : BitVec 32 :=
  let c0_i32_353 : BitVec 32 := 0#32
  c0_i32_353
def k0_off36 (i : grid0.Coords) : Fin 5 → Nat :=
  let c0_382 : Index := 0#32
  let c2_i32_375 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v594 : BitVec 32 := Scalar.muli c2_i32_375 v200
  let c0_i32_381 : BitVec 32 := 0#32
  let v607 : BitVec 32 := Scalar.addi v594 c0_i32_381
  let v608 : Index := Scalar.indexCast v607
  let c3_383 : Index := 3#32
  let c0_384 : Index := 0#32
  let c0_385 : Index := 0#32
  ![0, v608.toNat, 3, 0, 0]
def k0_mult55 : BitVec 32 :=
  let c0_i32_394 : BitVec 32 := 0#32
  c0_i32_394
def k0_mult56 : BitVec 32 :=
  let c0_i32_419 : BitVec 32 := 0#32
  c0_i32_419
def k0_off37 (i : grid0.Coords) : Fin 5 → Nat :=
  let c0_447 : Index := 0#32
  let c2_i32_441 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v706 : BitVec 32 := Scalar.muli c2_i32_441 v200
  let c0_i32_446 : BitVec 32 := 0#32
  let v719 : BitVec 32 := Scalar.addi v706 c0_i32_446
  let v720 : Index := Scalar.indexCast v719
  let c4_448 : Index := 4#32
  let c0_449 : Index := 0#32
  let c0_450 : Index := 0#32
  ![0, v720.toNat, 4, 0, 0]
def k0_mult57 : BitVec 32 :=
  let c0_i32_459 : BitVec 32 := 0#32
  c0_i32_459
def k0_mult58 : BitVec 32 :=
  let c0_i32_483 : BitVec 32 := 0#32
  c0_i32_483
def k0_off38 (i : grid0.Coords) : Fin 5 → Nat :=
  let c0_511 : Index := 0#32
  let c2_i32_505 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v818 : BitVec 32 := Scalar.muli c2_i32_505 v200
  let c0_i32_510 : BitVec 32 := 0#32
  let v831 : BitVec 32 := Scalar.addi v818 c0_i32_510
  let v832 : Index := Scalar.indexCast v831
  let c5_512 : Index := 5#32
  let c0_513 : Index := 0#32
  let c0_514 : Index := 0#32
  ![0, v832.toNat, 5, 0, 0]
def k0_mult59 : BitVec 32 :=
  let c0_i32_523 : BitVec 32 := 0#32
  c0_i32_523
def k0_mult60 : BitVec 32 :=
  let c0_i32_547 : BitVec 32 := 0#32
  c0_i32_547
def k0_off39 (i : grid0.Coords) : Fin 5 → Nat :=
  let c0_575 : Index := 0#32
  let c2_i32_569 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v930 : BitVec 32 := Scalar.muli c2_i32_569 v200
  let c0_i32_574 : BitVec 32 := 0#32
  let v943 : BitVec 32 := Scalar.addi v930 c0_i32_574
  let v944 : Index := Scalar.indexCast v943
  let c6_576 : Index := 6#32
  let c0_577 : Index := 0#32
  let c0_578 : Index := 0#32
  ![0, v944.toNat, 6, 0, 0]
def k0_mult61 : BitVec 32 :=
  let c0_i32_587 : BitVec 32 := 0#32
  c0_i32_587
def k0_mult62 : BitVec 32 :=
  let c0_i32_611 : BitVec 32 := 0#32
  c0_i32_611
def k0_off40 (i : grid0.Coords) : Fin 5 → Nat :=
  let c0_639 : Index := 0#32
  let c2_i32_633 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v1042 : BitVec 32 := Scalar.muli c2_i32_633 v200
  let c0_i32_638 : BitVec 32 := 0#32
  let v1055 : BitVec 32 := Scalar.addi v1042 c0_i32_638
  let v1056 : Index := Scalar.indexCast v1055
  let c7_640 : Index := 7#32
  let c0_641 : Index := 0#32
  let c0_642 : Index := 0#32
  ![0, v1056.toNat, 7, 0, 0]
def k0_mult63 : BitVec 32 :=
  let c0_i32_651 : BitVec 32 := 0#32
  c0_i32_651
def k0_mult64 : BitVec 32 :=
  let c0_i32_675 : BitVec 32 := 0#32
  c0_i32_675
def k0_cond3 (i : grid0.Coords) : BitVec 1 :=
  let arg2 : BitVec 32 := BitVec.ofNat 32 (i 2).val
  let c2_i32_168 : BitVec 32 := 2#32
  let c0_i32_169 : BitVec 32 := 0#32
  let v243 : BitVec 1 := Scalar.cmpi .eq c2_i32_168 c0_i32_169
  let c1_i32_170 : BitVec 32 := 1#32
  let v244 : BitVec 32 := Scalar.select v243 c1_i32_170 c2_i32_168
  let v245 : BitVec 32 := Scalar.remsi arg2 v244
  let c0_i32_172 : BitVec 32 := 0#32
  let v247 : BitVec 1 := Scalar.cmpi .slt v245 c0_i32_172
  let c0_i32_173 : BitVec 32 := 0#32
  let v248 : BitVec 1 := Scalar.cmpi .slt v244 c0_i32_173
  let v249 : BitVec 1 := Scalar.xori v247 v248
  let c0_i32_171 : BitVec 32 := 0#32
  let v246 : BitVec 1 := Scalar.cmpi .ne v245 c0_i32_171
  let v250 : BitVec 1 := Scalar.andi v249 v246
  let v251 : BitVec 32 := Scalar.addi v245 v244
  let v252 : BitVec 32 := Scalar.select v250 v251 v245
  let c1_i32_174 : BitVec 32 := 1#32
  let v253 : BitVec 1 := Scalar.cmpi .eq v252 c1_i32_174
  let v254 : BitVec 32 := Scalar.extui v253
  let c0_i32_175 : BitVec 32 := 0#32
  let v255 : BitVec 1 := Scalar.cmpi .ne v254 c0_i32_175
  v255

def k0_off41 (i : grid0.Coords) (c0_i32_183 : BitVec 32) : Fin 5 → Nat :=
  let c0_184 : Index := 0#32
  let c2_i32_177 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v262 : BitVec 32 := Scalar.muli c2_i32_177 v200
  let v275 : BitVec 32 := Scalar.addi v262 c0_i32_183
  let v276 : Index := Scalar.indexCast v275
  let c0_185 : Index := 0#32
  let c0_186 : Index := 0#32
  let c0_187 : Index := 0#32
  ![0, v276.toNat, 0, 0, 0]
def k0_mult65 : BitVec 32 :=
  let c0_i32_201 : BitVec 32 := 0#32
  c0_i32_201
def k0_mult66 : BitVec 32 :=
  let c0_i32_232 : BitVec 32 := 0#32
  c0_i32_232
def k0_off42 (i : grid0.Coords) (c0_i32_260 : BitVec 32) : Fin 5 → Nat :=
  let c0_261 : Index := 0#32
  let c2_i32_254 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v384 : BitVec 32 := Scalar.muli c2_i32_254 v200
  let v397 : BitVec 32 := Scalar.addi v384 c0_i32_260
  let v398 : Index := Scalar.indexCast v397
  let c1_262 : Index := 1#32
  let c0_263 : Index := 0#32
  let c0_264 : Index := 0#32
  ![0, v398.toNat, 1, 0, 0]
def k0_mult67 : BitVec 32 :=
  let c0_i32_278 : BitVec 32 := 0#32
  c0_i32_278
def k0_mult68 : BitVec 32 :=
  let c0_i32_308 : BitVec 32 := 0#32
  c0_i32_308
def k0_off43 (i : grid0.Coords) (c0_i32_336 : BitVec 32) : Fin 5 → Nat :=
  let c0_337 : Index := 0#32
  let c2_i32_330 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v506 : BitVec 32 := Scalar.muli c2_i32_330 v200
  let v519 : BitVec 32 := Scalar.addi v506 c0_i32_336
  let v520 : Index := Scalar.indexCast v519
  let c2_338 : Index := 2#32
  let c0_339 : Index := 0#32
  let c0_340 : Index := 0#32
  ![0, v520.toNat, 2, 0, 0]
def k0_mult69 : BitVec 32 :=
  let c0_i32_354 : BitVec 32 := 0#32
  c0_i32_354
def k0_mult70 : BitVec 32 :=
  let c0_i32_384 : BitVec 32 := 0#32
  c0_i32_384
def k0_off44 (i : grid0.Coords) (c0_i32_412 : BitVec 32) : Fin 5 → Nat :=
  let c0_413 : Index := 0#32
  let c2_i32_406 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v628 : BitVec 32 := Scalar.muli c2_i32_406 v200
  let v641 : BitVec 32 := Scalar.addi v628 c0_i32_412
  let v642 : Index := Scalar.indexCast v641
  let c3_414 : Index := 3#32
  let c0_415 : Index := 0#32
  let c0_416 : Index := 0#32
  ![0, v642.toNat, 3, 0, 0]
def k0_mult71 : BitVec 32 :=
  let c0_i32_430 : BitVec 32 := 0#32
  c0_i32_430
def k0_mult72 : BitVec 32 :=
  let c0_i32_460 : BitVec 32 := 0#32
  c0_i32_460
def k0_off45 (i : grid0.Coords) (c0_i32_487 : BitVec 32) : Fin 5 → Nat :=
  let c0_488 : Index := 0#32
  let c2_i32_482 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v750 : BitVec 32 := Scalar.muli c2_i32_482 v200
  let v763 : BitVec 32 := Scalar.addi v750 c0_i32_487
  let v764 : Index := Scalar.indexCast v763
  let c4_489 : Index := 4#32
  let c0_490 : Index := 0#32
  let c0_491 : Index := 0#32
  ![0, v764.toNat, 4, 0, 0]
def k0_mult73 : BitVec 32 :=
  let c0_i32_505 : BitVec 32 := 0#32
  c0_i32_505
def k0_mult74 : BitVec 32 :=
  let c0_i32_534 : BitVec 32 := 0#32
  c0_i32_534
def k0_off46 (i : grid0.Coords) (c0_i32_561 : BitVec 32) : Fin 5 → Nat :=
  let c0_562 : Index := 0#32
  let c2_i32_556 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v872 : BitVec 32 := Scalar.muli c2_i32_556 v200
  let v885 : BitVec 32 := Scalar.addi v872 c0_i32_561
  let v886 : Index := Scalar.indexCast v885
  let c5_563 : Index := 5#32
  let c0_564 : Index := 0#32
  let c0_565 : Index := 0#32
  ![0, v886.toNat, 5, 0, 0]
def k0_mult75 : BitVec 32 :=
  let c0_i32_579 : BitVec 32 := 0#32
  c0_i32_579
def k0_mult76 : BitVec 32 :=
  let c0_i32_608 : BitVec 32 := 0#32
  c0_i32_608
def k0_off47 (i : grid0.Coords) (c0_i32_635 : BitVec 32) : Fin 5 → Nat :=
  let c0_636 : Index := 0#32
  let c2_i32_630 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v994 : BitVec 32 := Scalar.muli c2_i32_630 v200
  let v1007 : BitVec 32 := Scalar.addi v994 c0_i32_635
  let v1008 : Index := Scalar.indexCast v1007
  let c6_637 : Index := 6#32
  let c0_638 : Index := 0#32
  let c0_639 : Index := 0#32
  ![0, v1008.toNat, 6, 0, 0]
def k0_mult77 : BitVec 32 :=
  let c0_i32_653 : BitVec 32 := 0#32
  c0_i32_653
def k0_mult78 : BitVec 32 :=
  let c0_i32_682 : BitVec 32 := 0#32
  c0_i32_682
def k0_off48 (i : grid0.Coords) (c0_i32_709 : BitVec 32) : Fin 5 → Nat :=
  let c0_710 : Index := 0#32
  let c2_i32_704 : BitVec 32 := 2#32
  let arg2 : BitVec 32 := BitVec.ofNat 32 (i 2).val
  let c0_i32_139 : BitVec 32 := 0#32
  let v185 : BitVec 1 := Scalar.cmpi .sgt arg2 c0_i32_139
  let v186 : BitVec 32 := Scalar.extui v185
  let c0_i32_140 : BitVec 32 := 0#32
  let v187 : BitVec 1 := Scalar.cmpi .slt arg2 c0_i32_140
  let v188 : BitVec 32 := Scalar.extui v187
  let v189 : BitVec 32 := Scalar.subi v186 v188
  let c2_i32 : BitVec 32 := 2#32
  let c0_i32_141 : BitVec 32 := 0#32
  let v190 : BitVec 1 := Scalar.cmpi .sgt c2_i32 c0_i32_141
  let v191 : BitVec 32 := Scalar.extui v190
  let c0_i32_142 : BitVec 32 := 0#32
  let v192 : BitVec 1 := Scalar.cmpi .slt c2_i32 c0_i32_142
  let v193 : BitVec 32 := Scalar.extui v192
  let v194 : BitVec 32 := Scalar.subi v191 v193
  let v195 : BitVec 1 := Scalar.cmpi .ne v189 v194
  let v196 : BitVec 32 := Scalar.remsi arg2 c2_i32
  let c0_i32_143 : BitVec 32 := 0#32
  let v197 : BitVec 1 := Scalar.cmpi .ne v196 c0_i32_143
  let v198 : BitVec 1 := Scalar.andi v195 v197
  let v184 : BitVec 32 := Scalar.divsi arg2 c2_i32
  let c1_i32 : BitVec 32 := 1#32
  let v199 : BitVec 32 := Scalar.subi v184 c1_i32
  let v200 : BitVec 32 := Scalar.select v198 v199 v184
  let v1116 : BitVec 32 := Scalar.muli c2_i32_704 v200
  let v1129 : BitVec 32 := Scalar.addi v1116 c0_i32_709
  let v1130 : Index := Scalar.indexCast v1129
  let c7_711 : Index := 7#32
  let c0_712 : Index := 0#32
  let c0_713 : Index := 0#32
  ![0, v1130.toNat, 7, 0, 0]
def k0_mult79 : BitVec 32 :=
  let c0_i32_727 : BitVec 32 := 0#32
  c0_i32_727
def k0_mult80 : BitVec 32 :=
  let c0_i32_756 : BitVec 32 := 0#32
  c0_i32_756
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, v1.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x8x2x64 : Shape := ⟨5, ![16, 4096, 8, 2, 64]⟩
abbrev S16x4096x8x128 : Shape := ⟨4, ![16, 4096, 8, 128]⟩
abbrev S64 : Shape := ⟨1, ![64]⟩
abbrev S128 : Shape := ⟨1, ![128]⟩
abbrev S_ : Shape := ⟨0, ![]⟩
abbrev S16x8x2x4096x4096 : Shape := ⟨5, ![16, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x2x4096 : Shape := ⟨4, ![16, 8, 2, 4096]⟩
abbrev S16x8x2x4096x1 : Shape := ⟨5, ![16, 8, 2, 4096, 1]⟩
abbrev S16x8x1x4096x4096 : Shape := ⟨5, ![16, 8, 1, 4096, 4096]⟩
abbrev S16x8x4096x4096 : Shape := ⟨4, ![16, 8, 4096, 4096]⟩
abbrev S16x8x128x4096 : Shape := ⟨4, ![16, 8, 128, 4096]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩
abbrev S16x4096x1024 : Shape := ⟨3, ![16, 4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16x4096x8x2x64, .f32⟩
  | .hbm, ⟨1, _⟩ => ⟨S16x4096x8x2x64, .f32⟩
  | .hbm, ⟨2, _⟩ => ⟨S16x4096x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x8x2x4096x4096, .f32⟩
  | .hbm, ⟨20, _⟩ => ⟨S_, .f32⟩
  | .hbm, ⟨21, _⟩ => ⟨S16x8x2x4096x4096, .f32⟩
  | .hbm, ⟨22, _⟩ => ⟨S16x8x2x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S16x8x2x4096x4096, .i1⟩
  | .hbm, ⟨32, _⟩ => ⟨S16x8x2x4096x4096, .f32⟩
  | .hbm, ⟨33, _⟩ => ⟨S16x8x2x4096x4096, .f32⟩
  | .hbm, ⟨34, _⟩ => ⟨S_, .f32⟩
  | .hbm, ⟨35, _⟩ => ⟨S16x8x2x4096, .f32⟩
  | .hbm, ⟨36, _⟩ => ⟨S_, .f32⟩
  | .hbm, ⟨37, _⟩ => ⟨S16x8x2x4096, .f32⟩
  | .hbm, ⟨38, _⟩ => ⟨S16x8x2x4096, .f32⟩
  | .hbm, ⟨39, _⟩ => ⟨S16x8x2x4096x1, .f32⟩
  | .hbm, ⟨40, _⟩ => ⟨S16x8x2x4096x4096, .f32⟩
  | .hbm, ⟨41, _⟩ => ⟨S16x8x2x4096x4096, .f32⟩
  | .hbm, ⟨42, _⟩ => ⟨S16x8x2x4096x4096, .f32⟩
  | .hbm, ⟨43, _⟩ => ⟨S_, .f32⟩
  | .hbm, ⟨44, _⟩ => ⟨S16x8x2x4096, .f32⟩
  | .hbm, ⟨45, _⟩ => ⟨S16x8x2x4096x1, .f32⟩
  | .hbm, ⟨46, _⟩ => ⟨S16x8x2x4096x4096, .f32⟩
  | .hbm, ⟨47, _⟩ => ⟨S16x8x2x4096x4096, .f32⟩
  | .hbm, ⟨48, _⟩ => ⟨S16x8x1x4096x4096, .f32⟩
  | .hbm, ⟨49, _⟩ => ⟨S16x8x4096x4096, .f32⟩
  | .hbm, ⟨50, _⟩ => ⟨S16x8x1x4096x4096, .f32⟩
  | .hbm, ⟨51, _⟩ => ⟨S16x8x4096x4096, .f32⟩
  | .hbm, ⟨52, _⟩ => ⟨S16x8x4096x4096, .f32⟩
  | .hbm, ⟨53, _⟩ => ⟨S16x8x4096x4096, .f32⟩
  | .hbm, ⟨54, _⟩ => ⟨S16x8x4096x4096, .f32⟩
  | .hbm, ⟨55, _⟩ => ⟨S16x8x128x4096, .f32⟩
  | .hbm, ⟨56, _⟩ => ⟨S16x4096x8x128, .f32⟩
  | .hbm, ⟨57, _⟩ => ⟨S16x4096x8x128, .f32⟩
  | .hbm, ⟨58, _⟩ => ⟨S_, .f32⟩
  | .hbm, ⟨59, _⟩ => ⟨S16x4096x8, .f32⟩
  | .hbm, ⟨60, _⟩ => ⟨S16x4096x8x1, .f32⟩
  | .hbm, ⟨61, _⟩ => ⟨S_, .f32⟩
  | .hbm, ⟨62, _⟩ => ⟨S16x4096x8x1, .f32⟩
  | .hbm, ⟨63, _⟩ => ⟨S16x4096x8x1, .f32⟩
  | .hbm, ⟨64, _⟩ => ⟨S_, .f32⟩
  | .hbm, ⟨65, _⟩ => ⟨S16x4096x8x1, .f32⟩
  | .hbm, ⟨66, _⟩ => ⟨S16x4096x8x1, .f32⟩
  | .hbm, ⟨67, _⟩ => ⟨S16x4096x8x1, .f32⟩
  | .hbm, ⟨68, _⟩ => ⟨S16x4096x8x128, .f32⟩
  | .hbm, ⟨69, _⟩ => ⟨S16x4096x8x128, .f32⟩
  | .hbm, ⟨70, _⟩ => ⟨S1x1x1x128, .f32⟩
  | .hbm, ⟨71, _⟩ => ⟨S16x4096x8x128, .f32⟩
  | .hbm, ⟨72, _⟩ => ⟨S16x4096x8x128, .f32⟩
  | .hbm, ⟨73, _⟩ => ⟨S_, .f32⟩
  | .hbm, ⟨74, _⟩ => ⟨S16x4096x8x128, .f32⟩
  | .hbm, ⟨75, _⟩ => ⟨S16x4096x8x128, .f32⟩
  | .hbm, ⟨76, _⟩ => ⟨S16x4096x1024, .f32⟩
  | .hbm, ⟨77, _⟩ => ⟨S16x4096x1024, .bf16⟩
  | _, _ => ⟨S16x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel2.lean ====
abbrev S16x4096x1024 : Shape := ⟨3, ![16, 4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S65536x1024 : Shape := ⟨2, ![65536, 1024]⟩
abbrev S1024x4096 : Shape := ⟨2, ![1024, 4096]⟩
abbrev S4096x1024 : Shape := ⟨2, ![4096, 1024]⟩
abbrev S1024 : Shape := ⟨1, ![1024]⟩
abbrev S1024x1024 : Shape := ⟨2, ![1024, 1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S65536x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x4096x1024 : Shape := ⟨3, ![16, 4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x4096 : Shape := ⟨2, ![1024, 4096]⟩
abbrev S65536x4096 : Shape := ⟨2, ![65536, 4096]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S65536x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1024x4096, .f32⟩
  | .hbm, ⟨24, _⟩ => ⟨S65536x4096, .f32⟩
  | .hbm, ⟨25, _⟩ => ⟨S_, .f32⟩
  | .hbm, ⟨26, _⟩ => ⟨S65536x4096, .f32⟩
  | .hbm, ⟨27, _⟩ => ⟨S65536x4096, .f32⟩
  | .hbm, ⟨28, _⟩ => ⟨S65536x4096, .f32⟩
  | .hbm, ⟨29, _⟩ => ⟨S4096x1024, .f32⟩
  | .hbm, ⟨30, _⟩ => ⟨S65536x1024, .f32⟩
  | .hbm, ⟨31, _⟩ => ⟨S1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096x2048 : Shape := ⟨3, ![16, 4096, 2048]⟩
abbrev S1x1024x1024 : Shape := ⟨3, ![1, 1024, 1024]⟩
abbrev S1x1024 : Shape := ⟨2, ![1, 1024]⟩
abbrev S65536x1024 : Shape := ⟨2, ![65536, 1024]⟩
abbrev S65536x2048 : Shape := ⟨2, ![65536, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 24
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x1024, .f32⟩
  | .hbm, ⟨3, _⟩ => ⟨S16x4096x2048, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S65536x1024, .f32⟩
  | .hbm, ⟨9, _⟩ => ⟨S65536x1024, .f32⟩
  | .hbm, ⟨10, _⟩ => ⟨S65536x1024, .bf16⟩
  | .hbm, ⟨11, _⟩ => ⟨S65536x1024, .f32⟩
  | .hbm, ⟨12, _⟩ => ⟨S65536x1024, .bf16⟩
  | .hbm, ⟨13, _⟩ => ⟨S65536x2048, .f32⟩
  | .hbm, ⟨14, _⟩ => ⟨S65536x2048, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x4096x1024 : Shape := ⟨3, ![16, 4096, 1024]⟩
abbrev S16x4096x2048 : Shape := ⟨3, ![16, 4096, 2048]⟩
abbrev S1x1024x1024 : Shape := ⟨3, ![1, 1024, 1024]⟩
abbrev S1x1024 : Shape := ⟨2, ![1, 1024]⟩
abbrev S65536x1024 : Shape := ⟨2, ![65536, 1024]⟩
abbrev S65536x2048 : Shape := ⟨2, ![65536, 2048]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x1024, .f32⟩
  | .hbm, ⟨3, _⟩ => ⟨S16x4096x2048, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x2048, .f32⟩
  | .hbm, ⟨12, _⟩ => ⟨S65536x1024, .f32⟩
  | .hbm, ⟨13, _⟩ => ⟨S65536x1024, .f32⟩
  | .hbm, ⟨14, _⟩ => ⟨S1024x1024, .f32⟩
  | .hbm, ⟨15, _⟩ => ⟨S65536x1024, .f32⟩
  | .hbm, ⟨16, _⟩ => ⟨S65536x1024, .f32⟩
  | .hbm, ⟨17, _⟩ => ⟨S1024x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1024x1024, .f32⟩
  | .hbm, ⟨22, _⟩ => ⟨S65536x1024, .f32⟩
  | .hbm, ⟨23, _⟩ => ⟨S1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.MlpBlock.lean ====
/- What one block of the channel-mixing call computes, row by row. -/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.Mlp

/-- A row of 1024 numbers over the root of its mean square, times a gain. -/
def rms (x w : Fin 1024 → EReal) (j : Fin 1024) : EReal :=
  x j * Ideal.rsqrt (Ideal.div (∑ k : Fin 1024, x k * x k) (Ideal.ofBits .f32 0x44800000#32) + Ideal.ofBits .f32 0x358637BD#32) * w j

/-- One hidden unit of a row: the squared positive part of its product with a column. -/
def unit (x w u : Fin 1024 → EReal) : EReal :=
  max (∑ d : Fin 1024, rms x w d * u d) 0 * max (∑ d : Fin 1024, rms x w d * u d) 0

/-- A row of the layer's channel mixing: the row plus the normed second product of its hidden units. -/
def mlp (x wpre wpost : Fin 1024 → EReal) (wu : Fin 4096 → Fin 1024 → EReal) (wd : Fin 1024 → Fin 4096 → EReal) (j : Fin 1024) : EReal :=
  x j + rms (fun i => ∑ k : Fin 4096, unit x wpre (wu k) * wd i k) wpost j

end Cert.Proof.Mlp

namespace Cert.Proof.Mlp

open Cert.Kernel2Ideal Cert.Kernel2Ideal.Gen

/-- The normed rows, at an index. -/
theorem norm_at (x : FVec Ideal S1024x1024 .f32) (w : FVec Ideal S1x1024 .f32) (r d : Fin 1024) :
    k0_pay2 (F := Ideal) x w (ix2 r d) = rms (fun d => x (ix2 r d)) (fun d => w (ix2 0 d)) d := by
  pointwise [k0_pay2, k0_pay1]
  rfl

/-- Two chunks of the second product, at an index. -/
theorem half_at (x : FVec Ideal S1024x1024 .f32) (w : FVec Ideal S1x1024 .f32) (u0 d0 u1 d1 : FVec Ideal S1024x1024 .bf16) (r j : Fin 1024) :
    k0_pay3 (F := Ideal) x w u0 d0 u1 d1 (ix2 r j)
      = (∑ k : Fin 1024, unit (fun d => x (ix2 r d)) (fun d => w (ix2 0 d)) (fun d => u0 (ix2 d k)) * d0 (ix2 k j))
        + ∑ k : Fin 1024, unit (fun d => x (ix2 r d)) (fun d => w (ix2 0 d)) (fun d => u1 (ix2 d k)) * d1 (ix2 k j) := by
  pointwise [k0_pay3, norm_at]
  rfl

/-- The stored block over the normed rows `h` and the first two chunks' sum `f`, at an index. -/
theorem store_at (x : FVec Ideal S1024x1024 .f32) (h : FVec Ideal S1024x1024 .bf16) (f : FVec Ideal S1024x1024 .f32) (u2 d2 u3 d3 : FVec Ideal S1024x1024 .bf16)
    (w : FVec Ideal S1x1024 .f32) (r j : Fin 1024) :
    k0_pay4 (F := Ideal) x h f u2 d2 u3 d3 w (ix2 r j)
      = x (ix2 r j) + rms (fun i => f (ix2 r i)
          + (∑ k : Fin 1024, max (∑ d, h (ix2 r d) * u2 (ix2 d k)) 0 * max (∑ d, h (ix2 r d) * u2 (ix2 d k)) 0 * d2 (ix2 k i))
          + (∑ k : Fin 1024, max (∑ d, h (ix2 r d) * u3 (ix2 d k)) 0 * max (∑ d, h (ix2 r d) * u3 (ix2 d k)) 0 * d3 (ix2 k i)))
          (fun i => w (ix2 0 i)) j := by
  pointwise [k0_pay4]
  rfl

/-- The block a grid point stores, at an index, over the blocks it reads. -/
theorem block_at (x0 : FVec Ideal S1024x1024 .f32) (x1 : FVec Ideal S1024x4096 .bf16) (x2 : FVec Ideal S4096x1024 .bf16) (x3 x4 : FVec Ideal S1x1024 .f32)
    (r j : Fin 1024) :
    out0_5 (F := Ideal) x0 x1 x2 x3 x4 (ix2 r j)
      = mlp (fun d => x0 (ix2 r d)) (fun d => x3 (ix2 0 d)) (fun d => x4 (ix2 0 d)) (fun k d => x1 (ix2 d k)) (fun i k => x2 (ix2 k i)) j := by
  frame_out
  rw [store_at]
  pointwise [half_at, norm_at, k0_pay1, r0_2, r0_3, r0_4, r0_5, r0_6, r0_7, r0_8, r0_9]
  unfold mlp
  refine congrArg (x0 (ix2 r j) + ·) (congrArg (fun f => rms f (fun d => x4 (ix2 0 d)) j) (funext fun i => ?_))
  rw [Fin.sum_univ_tiles 4 1024 rfl]
  simp only [Fin.sum_univ_four]
  rfl

end Cert.Proof.Mlp

end
-- ==== Proof.MlpValue.lean ====
/- The channel-mixing call's result array, and the reference's, as one function of the arguments. -/
module

public import proofs.«01_k».proof.Proof.MlpBlock
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Proof.Mlp

/-- One element of the result: row `r` of the sequences laid end to end through `mlp`. -/
def wholeAt (x : FVec Ideal ⟨3, ![16, 4096, 1024]⟩ .f32) (wpre wpost : FVec Ideal ⟨2, ![1, 1024]⟩ .f32)
    (wu : FVec Ideal ⟨3, ![1, 1024, 4096]⟩ .f32) (wd : FVec Ideal ⟨3, ![1, 4096, 1024]⟩ .f32) (r : Fin 65536) (j : Fin 1024) : EReal :=
  mlp (fun d => x (ix3 ⟨r.val / 4096, by omega⟩ ⟨r.val % 4096, by omega⟩ d))
    (fun d => wpre (ix2 0 d)) (fun d => wpost (ix2 0 d)) (fun k d => wu (ix3 0 d k)) (fun j k => wd (ix3 0 k j)) j

/-- The whole result. -/
def whole (x : FVec Ideal ⟨3, ![16, 4096, 1024]⟩ .f32) (wpre wpost : FVec Ideal ⟨2, ![1, 1024]⟩ .f32)
    (wu : FVec Ideal ⟨3, ![1, 1024, 4096]⟩ .f32) (wd : FVec Ideal ⟨3, ![1, 4096, 1024]⟩ .f32) : FVec Ideal ⟨2, ![65536, 1024]⟩ .f32 :=
  fun i => wholeAt x wpre wpost wu wd (i 0) (i 1)

section
open Cert.Reference2Ideal Cert.Reference2Ideal.Gen

/-- The reference's norm of rows: each over the root of its mean square, times a gain. -/
def refNorm (x : FVec Ideal S65536x1024 .f32) (w : FVec Ideal S1024 .f32) : FVec Ideal S65536x1024 .f32 :=
  mulf (mulf x (broadcastInDim S65536x1024 ![0, 1] bcast_S65536x1_S65536x1024_0_1 (Host.rsqrt (addf (Host.divf
      (broadcastInDim S65536x1 ![0] bcast_S65536_S65536x1_0 (Host.reduceAdd (mulf x x) (constant S_ .f32 0x00000000#32) reducesTo_S65536x1024_S65536_d1 h_S_))
      (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 w))

/-- The reference's hidden units. -/
def refHidden (h : FVec Ideal S65536x1024 .f32) (wu : FVec Ideal S1024x4096 .f32) : FVec Ideal S65536x4096 .f32 :=
  mulf (maximumf (Host.dotGeneral dot_S65536x1024_S1024x4096_S65536x4096_1_0_0_1_n_n none h wu) (broadcastInDim S65536x4096 ![] bcast_S_S65536x4096 (constant S_ .f32 0x00000000#32)))
    (maximumf (Host.dotGeneral dot_S65536x1024_S1024x4096_S65536x4096_1_0_0_1_n_n none h wu) (broadcastInDim S65536x4096 ![] bcast_S_S65536x4096 (constant S_ .f32 0x00000000#32)))

/-- The reference's second product. -/
def refDown (a : FVec Ideal S65536x4096 .f32) (wd : FVec Ideal S4096x1024 .f32) : FVec Ideal S65536x1024 .f32 :=
  Host.dotGeneral dot_S65536x4096_S4096x1024_S65536x1024_1_0_0_1_n_n none a wd

/-- The reference's whole term. -/
def refTerm (x : FVec Ideal S16x4096x1024 .f32) (wpre wpost : FVec Ideal S1x1024 .f32) (wu : FVec Ideal S1x1024x4096 .f32) (wd : FVec Ideal S1x4096x1024 .f32) : FVec Ideal S65536x1024 .f32 :=
  addf (shapeCast _ x shapeCasts_S16x4096x1024_S65536x1024) (refNorm (refDown (refHidden (refNorm (shapeCast _ x shapeCasts_S16x4096x1024_S65536x1024)
    (shapeCast _ wpre shapeCasts_S1x1024_S1024)) (shapeCast _ wu shapeCasts_S1x1024x4096_S1024x4096)) (shapeCast _ wd shapeCasts_S1x4096x1024_S4096x1024)) (shapeCast _ wpost shapeCasts_S1x1024_S1024))

/-- The reference's norm, at an index. -/
theorem refNorm_at (x : FVec Ideal S65536x1024 .f32) (w : FVec Ideal S1024 .f32) (r : Fin 65536) (j : Fin 1024) :
    refNorm x w (ix2 r j) = rms (fun d => x (ix2 r d)) (fun d => w (ix1 d)) j := by
  pointwise [refNorm]
  rfl

/-- A hidden unit, at an index. -/
theorem refHidden_at (h : FVec Ideal S65536x1024 .f32) (wu : FVec Ideal S1024x4096 .f32) (r : Fin 65536) (k : Fin 4096) :
    refHidden h wu (ix2 r k) = max (∑ d : Fin 1024, h (ix2 r d) * wu (ix2 d k)) 0 * max (∑ d : Fin 1024, h (ix2 r d) * wu (ix2 d k)) 0 := by
  pointwise [refHidden]

/-- The second product, at an index. -/
theorem refDown_at (a : FVec Ideal S65536x4096 .f32) (wd : FVec Ideal S4096x1024 .f32) (r : Fin 65536) (j : Fin 1024) :
    refDown a wd (ix2 r j) = ∑ k : Fin 4096, a (ix2 r k) * wd (ix2 k j) := by
  pointwise [refDown]

/-- The reference's composed term is that result. -/
theorem refTerm_eq (x : FVec Ideal S16x4096x1024 .f32) (wpre wpost : FVec Ideal S1x1024 .f32) (wu : FVec Ideal S1x1024x4096 .f32) (wd : FVec Ideal S1x4096x1024 .f32) :
    refTerm x wpre wpost wu wd = whole x wpre wpost wu wd := by
  funext i
  idx_vars i
  show _ = wholeAt x wpre wpost wu wd i0 i1
  unfold wholeAt mlp unit
  pointwise [refTerm, refNorm_at, refHidden_at, refDown_at]

/-- The reference's run ends at that result. -/
theorem ref_eq (m : (ℓ : Loc nD τ sig) → Buf (Elt Ideal) ℓ) (c : Dev nD) :
    Cert.Reference2Ideal.Value.res_out0 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  Eq.trans (by unfold Cert.Reference2Ideal.Value.res_out0 Cert.Reference2Ideal.Value.res_main_v35 refTerm refNorm refHidden refDown; rfl) (refTerm_eq _ _ _ _ _)
end

section
open Cert.Kernel2Ideal Cert.Kernel2Ideal.Gen

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 64 :=
  (by decide +kernel : ∀ t : Fin grid0.N, _)

/-- The result array after the run. -/
theorem final (m : (ℓ : Loc nD τ sig) → Buf (Elt Ideal) ℓ) (c : Dev nD) : (dats m 0 c).arrAt 5 (cfgs 0).N
    = whole (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [block_at]
  have hi := idx t
  have ht : t.val < 64 := hi.2.2.2.2.2.2
  have he : ((View.whole main_v9).slice (win0_5.rect t)).emb (ix2 y0 y1) = ix2 (⟨t.val * 1024 + y0.val, by omega⟩ : Fin 65536) y1 := by
    blk_ext [idx t]
  rw [he]
  show _ = wholeAt _ _ _ _ _ (⟨t.val * 1024 + y0.val, by omega⟩ : Fin 65536) y1
  unfold wholeAt
  have h0 : ∀ d : Fin 1024, iblk m c 0 t (ix2 y0 d) = m ((c : Thread nD τ).loc main_arg0)
      (ix3 ⟨(t.val * 1024 + y0.val) / 4096, by omega⟩ ⟨(t.val * 1024 + y0.val) % 4096, by omega⟩ d) := fun d => by
    unfold iblk; entry_read; blk_simp; pointwise []; blk_ext [idx t]
  have h3 : ∀ d : Fin 1024, iblk m c 3 t (ix2 0 d) = m ((c : Thread nD τ).loc main_arg1) (ix2 0 d) := fun d => by
    unfold iblk; entry_read; blk_simp; pointwise []; blk_ext [idx t]
  have h4 : ∀ d : Fin 1024, iblk m c 4 t (ix2 0 d) = m ((c : Thread nD τ).loc main_arg2) (ix2 0 d) := fun d => by
    unfold iblk; entry_read; blk_simp; pointwise []; blk_ext [idx t]
  have h1 : ∀ (k : Fin 4096) (d : Fin 1024), iblk m c 1 t (ix2 d k) = m ((c : Thread nD τ).loc main_arg3) (ix3 0 d k) := fun k d => by
    unfold iblk; entry_read; blk_simp; pointwise []; blk_ext [idx t]
  have h2 : ∀ (k : Fin 4096) (d : Fin 1024), iblk m c 2 t (ix2 k d) = m ((c : Thread nD τ).loc main_arg4) (ix3 0 k d) := fun k d => by
    unfold iblk; entry_read; blk_simp; pointwise []; blk_ext [idx t]
  simp only [h0, h1, h2, h3, h4]
end

end Cert.Proof.Mlp

end
-- ==== Proof.Mlp.lean ====
/- The channel-mixing call's claims. -/
module

public import proofs.«01_k».proof.Defs
public import proofs.«01_k».proof.Proof.MlpValue
public import proofs.«01_k».proof.Proof.Gen.Kernel2.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Mlp

/-- The compiled program runs, leaves its arguments and every counter as they were. -/
theorem frame_k : Cert.quiescent_Kernel2 := fun m ρ _ => Cert.Kernel2.Gen.frame m ρ

/-- So does the idealized program. -/
theorem frame_ki : Cert.quiescent_Kernel2Ideal := fun m ρ _ => Cert.Kernel2Ideal.Gen.frame m ρ

/-- So does the reference. -/
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Kernel and reference end with the same result on arguments that agree. -/
theorem value : Cert.algebraic_Kernel2Ideal_Reference2Ideal := by
  pair_intro
  · run_from Cert.Kernel2Ideal.Gen.run_main m g
  · run_from Cert.Reference2Ideal.Value.run (F := Ideal) m' g'
    have h := ref_eq m' c
    obtain ⟨h0, h1, h2, h3, h4⟩ := hagree c
    rw [h0, h1, h2, h3, h4] at h
    exact h.trans (final m c).symm

end Cert.Proof.Mlp

end
-- ==== Proof.MergeValue.lean ====
/- The merge call's result array, and the reference's, as one function of the arguments. -/
module

public import proofs.«01_k».proof.Proof.MlpBlock
public import proofs.«01_k».proof.Proof.Gen.Kernel3Ideal.Frame
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Proof.Merge

open Cert.Proof.Mlp (rms)

/-- One channel of a row's gated sum: each branch's row through its weights, times its gate. -/
def gated (oa ob ga gb : Fin 1024 → EReal) (wa wb : Fin 1024 → Fin 1024 → EReal) (k : Fin 1024) : EReal :=
  ga k * (∑ d : Fin 1024, oa d * wa d k) + gb k * (∑ d : Fin 1024, ob d * wb d k)

/-- A row of the merge: the residual row plus the normed output projection of the gated sum. -/
def merge (x oa ob ga gb : Fin 1024 → EReal) (wa wb wo : Fin 1024 → Fin 1024 → EReal) (pw : Fin 1024 → EReal) (j : Fin 1024) : EReal :=
  x j + rms (fun i => ∑ k : Fin 1024, gated oa ob ga gb wa wb k * wo k i) pw j

/-- One element of the result: row `r` of the sequences laid end to end through `merge`. -/
def wholeAt (x oa ob : FVec Ideal ⟨3, ![16, 4096, 1024]⟩ .f32) (g : FVec Ideal ⟨3, ![16, 4096, 2048]⟩ .f32)
    (wa wb wo : FVec Ideal ⟨3, ![1, 1024, 1024]⟩ .f32) (pw : FVec Ideal ⟨2, ![1, 1024]⟩ .f32) (r : Fin 65536) (j : Fin 1024) : EReal :=
  merge (fun d => x (ix3 ⟨r.val / 4096, by omega⟩ ⟨r.val % 4096, by omega⟩ d))
    (fun d => oa (ix3 ⟨r.val / 4096, by omega⟩ ⟨r.val % 4096, by omega⟩ d))
    (fun d => ob (ix3 ⟨r.val / 4096, by omega⟩ ⟨r.val % 4096, by omega⟩ d))
    (fun d => g (ix3 ⟨r.val / 4096, by omega⟩ ⟨r.val % 4096, by omega⟩ ⟨d.val, by omega⟩))
    (fun d => g (ix3 ⟨r.val / 4096, by omega⟩ ⟨r.val % 4096, by omega⟩ ⟨1024 + d.val, by omega⟩))
    (fun d k => wa (ix3 0 d k)) (fun d k => wb (ix3 0 d k)) (fun d k => wo (ix3 0 d k)) (fun d => pw (ix2 0 d)) j

/-- The whole result. -/
def whole (x oa ob : FVec Ideal ⟨3, ![16, 4096, 1024]⟩ .f32) (g : FVec Ideal ⟨3, ![16, 4096, 2048]⟩ .f32)
    (wa wb wo : FVec Ideal ⟨3, ![1, 1024, 1024]⟩ .f32) (pw : FVec Ideal ⟨2, ![1, 1024]⟩ .f32) : FVec Ideal ⟨2, ![65536, 1024]⟩ .f32 :=
  fun i => wholeAt x oa ob g wa wb wo pw (i 0) (i 1)

section
open Cert.Reference3Ideal Cert.Reference3Ideal.Gen

/-- The reference's norm of rows. -/
def refNorm (x : FVec Ideal S65536x1024 .f32) (w : FVec Ideal S1024 .f32) : FVec Ideal S65536x1024 .f32 :=
  mulf (mulf x (broadcastInDim S65536x1024 ![0, 1] bcast_S65536x1_S65536x1024_0_1 (Host.rsqrt (addf (Host.divf
      (broadcastInDim S65536x1 ![0] bcast_S65536_S65536x1_0 (Host.reduceAdd (mulf x x) (constant S_ .f32 0x00000000#32) reducesTo_S65536x1024_S65536_d1 h_S_))
      (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 w))

/-- One of the reference's products. -/
def refDot (a : FVec Ideal S65536x1024 .f32) (w : FVec Ideal S1x1024x1024 .f32) : FVec Ideal S65536x1024 .f32 :=
  Host.dotGeneral dot_S65536x1024_S1024x1024_S65536x1024_1_0_0_1_n_n none a (shapeCast _ w shapeCasts_S1x1024x1024_S1024x1024)

/-- The reference's whole term. -/
def refTerm (x oa ob : FVec Ideal S16x4096x1024 .f32) (g : FVec Ideal S16x4096x2048 .f32) (wa wb wo : FVec Ideal S1x1024x1024 .f32) (pw : FVec Ideal S1x1024 .f32) : FVec Ideal S65536x1024 .f32 :=
  addf (shapeCast _ x shapeCasts_S16x4096x1024_S65536x1024) (refNorm (refDot
    (addf (mulf (extractStridedSlice S65536x1024 ![0, 0] (shapeCast _ g shapeCasts_S16x4096x2048_S65536x2048) slices_S65536x2048_S65536x1024_0_0) (refDot (shapeCast _ oa shapeCasts_S16x4096x1024_S65536x1024) wa))
      (mulf (extractStridedSlice S65536x1024 ![0, 1024] (shapeCast _ g shapeCasts_S16x4096x2048_S65536x2048) slices_S65536x2048_S65536x1024_0_1024) (refDot (shapeCast _ ob shapeCasts_S16x4096x1024_S65536x1024) wb)))
    wo) (shapeCast _ pw shapeCasts_S1x1024_S1024))

/-- The reference's norm, at an index. -/
theorem refNorm_at (x : FVec Ideal S65536x1024 .f32) (w : FVec Ideal S1024 .f32) (r : Fin 65536) (j : Fin 1024) :
    refNorm x w (ix2 r j) = rms (fun d => x (ix2 r d)) (fun d => w (ix1 d)) j := by
  pointwise [refNorm]
  rfl

/-- A product, at an index. -/
theorem refDot_at (a : FVec Ideal S65536x1024 .f32) (w : FVec Ideal S1x1024x1024 .f32) (r : Fin 65536) (j : Fin 1024) :
    refDot a w (ix2 r j) = ∑ k : Fin 1024, a (ix2 r k) * w (ix3 0 k j) := by
  pointwise [refDot]

/-- The reference's composed term is that result. -/
theorem refTerm_eq (x oa ob : FVec Ideal S16x4096x1024 .f32) (g : FVec Ideal S16x4096x2048 .f32) (wa wb wo : FVec Ideal S1x1024x1024 .f32) (pw : FVec Ideal S1x1024 .f32) :
    refTerm x oa ob g wa wb wo pw = whole x oa ob g wa wb wo pw := by
  funext i
  idx_vars i
  show _ = wholeAt x oa ob g wa wb wo pw i0 i1
  unfold wholeAt merge gated
  pointwise [refTerm, refNorm_at, refDot_at]
end

section
open Cert.Kernel3Ideal Cert.Kernel3Ideal.Gen

/-- The projected gated sums of a block, at an index. -/
theorem mixed_at (oa wa ob wb ga gb wo : FVec Ideal S1024x1024 .bf16) (r j : Fin 1024) :
    k0_pay2 (F := Ideal) oa wa ob wb ga gb wo (ix2 r j)
      = ∑ k : Fin 1024, gated (fun d => oa (ix2 r d)) (fun d => ob (ix2 r d)) (fun d => ga (ix2 r d)) (fun d => gb (ix2 r d))
          (fun d k => wa (ix2 d k)) (fun d k => wb (ix2 d k)) k * wo (ix2 k j) := by
  pointwise [k0_pay2]
  rfl

/-- The block a grid point stores, at an index, over the blocks it reads. -/
theorem block_at (x0 : FVec Ideal S1024x1024 .f32) (x1 x2 x3 x4 x5 x6 x7 : FVec Ideal S1024x1024 .bf16) (x8 : FVec Ideal S1x1024 .f32)
    (r j : Fin 1024) :
    out0_9 (F := Ideal) x0 x1 x2 x3 x4 x5 x6 x7 x8 (ix2 r j)
      = merge (fun d => x0 (ix2 r d)) (fun d => x1 (ix2 r d)) (fun d => x2 (ix2 r d)) (fun d => x3 (ix2 r d)) (fun d => x4 (ix2 r d))
          (fun d k => x5 (ix2 d k)) (fun d k => x6 (ix2 d k)) (fun d k => x7 (ix2 d k)) (fun d => x8 (ix2 0 d)) j := by
  frame_out
  pointwise [k0_pay1, k0_pay3, k0_pay4, k0_pay5, mixed_at, r0_0, r0_1]
  rfl

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![0, 0] ∧ win0_9.index t = ![t.val, 0] ∧ t.val < 64 :=
  (by decide +kernel : ∀ t : Fin grid0.N, _)

set_option maxHeartbeats 2000000 in
/-- The result array after the run. -/
theorem final (m : (ℓ : Loc nD τ sig) → Buf (Elt Ideal) ℓ) (c : Dev nD) : (dats m 0 c).arrAt 9 (cfgs 0).N
    = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 9 _ (by decide +kernel) fun t _ y => ?_
  blk_simp
  rw [after0_9]
  idx_vars y
  rw [block_at]
  have hi := idx t
  have ht : t.val < 64 := hi.2.2.2.2.2.2.2.2.2.2
  have he : ((View.whole main_v15).slice (win0_9.rect t)).emb (ix2 y0 y1) = ix2 (⟨t.val * 1024 + y0.val, by omega⟩ : Fin 65536) y1 := by
    blk_ext [idx t]
  rw [he]
  show _ = wholeAt _ _ _ _ _ _ _ _ (⟨t.val * 1024 + y0.val, by omega⟩ : Fin 65536) y1
  unfold wholeAt
  have h0 : ∀ d : Fin 1024, iblk m c 0 t (ix2 y0 d) = m ((c : Thread nD τ).loc main_arg0)
      (ix3 ⟨(t.val * 1024 + y0.val) / 4096, by omega⟩ ⟨(t.val * 1024 + y0.val) % 4096, by omega⟩ d) := fun d => by
    unfold iblk; entry_read; blk_simp; pointwise []; blk_ext [idx t]
  have h1 : ∀ d : Fin 1024, iblk m c 1 t (ix2 y0 d) = m ((c : Thread nD τ).loc main_arg1)
      (ix3 ⟨(t.val * 1024 + y0.val) / 4096, by omega⟩ ⟨(t.val * 1024 + y0.val) % 4096, by omega⟩ d) := fun d => by
    unfold iblk; entry_read; blk_simp; pointwise []; blk_ext [idx t]
  have h2 : ∀ d : Fin 1024, iblk m c 2 t (ix2 y0 d) = m ((c : Thread nD τ).loc main_arg2)
      (ix3 ⟨(t.val * 1024 + y0.val) / 4096, by omega⟩ ⟨(t.val * 1024 + y0.val) % 4096, by omega⟩ d) := fun d => by
    unfold iblk; entry_read; blk_simp; pointwise []; blk_ext [idx t]
  have h3 : ∀ d : Fin 1024, iblk m c 3 t (ix2 y0 d) = m ((c : Thread nD τ).loc main_arg3)
      (ix3 ⟨(t.val * 1024 + y0.val) / 4096, by omega⟩ ⟨(t.val * 1024 + y0.val) % 4096, by omega⟩ ⟨d.val, by omega⟩) := fun d => by
    unfold iblk; entry_read; blk_simp; pointwise []; blk_ext [idx t]
  have h4 : ∀ d : Fin 1024, iblk m c 4 t (ix2 y0 d) = m ((c : Thread nD τ).loc main_arg3)
      (ix3 ⟨(t.val * 1024 + y0.val) / 4096, by omega⟩ ⟨(t.val * 1024 + y0.val) % 4096, by omega⟩ ⟨1024 + d.val, by omega⟩) := fun d => by
    unfold iblk; entry_read; blk_simp; pointwise []; blk_ext [idx t]
  have h5 : ∀ d k : Fin 1024, iblk m c 5 t (ix2 d k) = m ((c : Thread nD τ).loc main_arg4) (ix3 0 d k) := fun d k => by
    unfold iblk; entry_read; blk_simp; pointwise []; blk_ext [idx t]
  have h6 : ∀ d k : Fin 1024, iblk m c 6 t (ix2 d k) = m ((c : Thread nD τ).loc main_arg5) (ix3 0 d k) := fun d k => by
    unfold iblk; entry_read; blk_simp; pointwise []; blk_ext [idx t]
  have h7 : ∀ d k : Fin 1024, iblk m c 7 t (ix2 d k) = m ((c : Thread nD τ).loc main_arg6) (ix3 0 d k) := fun d k => by
    unfold iblk; entry_read; blk_simp; pointwise []; blk_ext [idx t]
  have h8 : ∀ d : Fin 1024, iblk m c 8 t (ix2 0 d) = m ((c : Thread nD τ).loc main_arg7) (ix2 0 d) := fun d => by
    unfold iblk; entry_read; blk_simp; pointwise []; blk_ext [idx t]
  simp only [h0, h1, h2, h3, h4, h5, h6, h7, h8]
end

end Cert.Proof.Merge

end
-- ==== Proof.Merge.lean ====
/- The merge call's claims. -/
module

public import proofs.«01_k».proof.Defs
public import proofs.«01_k».proof.Proof.MergeValue
public import proofs.«01_k».proof.Proof.Gen.Kernel3.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Merge

/-- The compiled program runs, leaves its arguments and every counter as they were. -/
theorem frame_k : Cert.quiescent_Kernel3 := fun m ρ _ => Cert.Kernel3.Gen.frame m ρ

/-- So does the idealized program. -/
theorem frame_ki : Cert.quiescent_Kernel3Ideal := fun m ρ _ => Cert.Kernel3Ideal.Gen.frame m ρ

/-- So does the reference. -/
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Kernel and reference end with the same result on arguments that agree. -/
theorem value : Cert.algebraic_Kernel3Ideal_Reference3Ideal := by
  pair_intro
  · run_from Cert.Kernel3Ideal.Gen.run_main m g
  · run_from Cert.Reference3Ideal.Value.run (F := Ideal) m' g'
    have h := refTerm_eq (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)) (m (c.tc.loc Cert.Kernel3Ideal.main_arg7))
    refine Eq.trans ?_ (h.trans (final m c).symm)
    delta refTerm refNorm refDot
    rfl

end Cert.Proof.Merge

end
-- ==== Proof.AttnRunFirst.lean ====
module
public import proofs.«01_k».proof.Proof.Gen.KernelIdeal.Loops
public import proofs.«01_k».proof.Proof.Gen.KernelIdeal.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The attention body at a query block that opens a batch (so an even one): from its arguments at any contents it runs to their
contents unchanged, with the pieces named here written into the output block and the two scratch arrays at the contents named here. -/
@[irreducible] def runFirst (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (hc1 : k0_cond1 i = 1#1) (hc2 : k0_cond2 i = 1#1) (hc3 : ¬ k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } := by
  refine ⟨?_, ?_, ?_, fun f12 f13 f14 => ?run⟩
  case run =>
    unfold cc0_attn
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    iintro ⟨H3, H4, H5, H6, H7, H8, H9, H10, H11, H12, H13, H14⟩
    sl_exec
    sl_step
    sl_close

end Cert.Proof.Attn

end
-- ==== Proof.AttnRunEven.lean ====
module
public import proofs.«01_k».proof.Proof.Gen.KernelIdeal.Loops
public import proofs.«01_k».proof.Proof.Gen.KernelIdeal.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The attention body at a later even query block: from its arguments at any contents it runs to their
contents unchanged, with the pieces named here written into the output block and the two scratch arrays at the contents named here. -/
@[irreducible] def runEven (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (hc1 : ¬ k0_cond1 i = 1#1) (hc2 : k0_cond2 i = 1#1) (hc3 : ¬ k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } := by
  refine ⟨?_, ?_, ?_, fun f12 f13 f14 => ?run⟩
  case run =>
    unfold cc0_attn
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    iintro ⟨H3, H4, H5, H6, H7, H8, H9, H10, H11, H12, H13, H14⟩
    sl_exec
    sl_step
    sl_close

end Cert.Proof.Attn

end
-- ==== Proof.AttnRunOdd.lean ====
module
public import proofs.«01_k».proof.Proof.Gen.KernelIdeal.Loops
public import proofs.«01_k».proof.Proof.Gen.KernelIdeal.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The attention body at an odd query block: from its arguments at any contents it runs to their
contents unchanged, with the pieces named here written into the output block and the two scratch arrays at the contents named here. -/
@[irreducible] def runOdd (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (hc1 : ¬ k0_cond1 i = 1#1) (hc2 : ¬ k0_cond2 i = 1#1) (hc3 : k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } := by
  refine ⟨?_, ?_, ?_, fun f12 f13 f14 => ?run⟩
  case run =>
    unfold cc0_attn
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    iintro ⟨H3, H4, H5, H6, H7, H8, H9, H10, H11, H12, H13, H14⟩
    sl_exec
    sl_step
    sl_close

end Cert.Proof.Attn

end
-- ==== Proof.AttnRun.lean ====
/-
  The attention body at any grid point: the three runs (a query block that opens a batch, a later even one, an odd
  one) as one, and what the contents they leave depend on.
-/
module
public import proofs.«01_k».proof.Proof.AttnRunFirst
public import proofs.«01_k».proof.Proof.AttnRunEven
public import proofs.«01_k».proof.Proof.AttnRunOdd
public import proofs.«01_k».proof.Proof.Gen.KernelIdeal.Loops
public import proofs.«01_k».proof.Proof.Gen.KernelIdeal.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem cond_12 : ∀ t : Fin cfg0.N, k0_cond1 (grid0.coords t) = 1#1 → k0_cond2 (grid0.coords t) = 1#1 :=
  (by decide +kernel : ∀ t : Fin grid0.N, k0_cond1 (grid0.coords t) = 1#1 → k0_cond2 (grid0.coords t) = 1#1)

theorem cond_23 : ∀ t : Fin cfg0.N, k0_cond2 (grid0.coords t) = 1#1 → ¬ k0_cond3 (grid0.coords t) = 1#1 :=
  (by decide +kernel : ∀ t : Fin grid0.N, k0_cond2 (grid0.coords t) = 1#1 → ¬ k0_cond3 (grid0.coords t) = 1#1)

theorem cond_3 : ∀ t : Fin cfg0.N, ¬ k0_cond2 (grid0.coords t) = 1#1 → k0_cond3 (grid0.coords t) = 1#1 :=
  (by decide +kernel : ∀ t : Fin grid0.N, ¬ k0_cond2 (grid0.coords t) = 1#1 → k0_cond3 (grid0.coords t) = 1#1)

/-- The first condition holds at the points that open a batch. -/
theorem cond_1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second condition holds at the even points. -/
theorem cond_2 : ∀ t : Fin cfg0.N, k0_cond2 (grid0.coords t) = 1#1 ↔ t.val % 2 = 0 :=
  (by decide +kernel : ∀ t : Fin grid0.N, k0_cond2 (grid0.coords t) = 1#1 ↔ t.val % 2 = 0)

/-- The attention body at any grid point, from its arguments at any contents. -/
def runAt (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) (grid0.coords t) arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } :=
  if h1 : k0_cond1 (grid0.coords t) = 1#1 then runFirst c (grid0.coords t) arg3 harg3 arg4 harg4 arg5 harg5 arg6 harg6 arg7 harg7 arg8 harg8 arg9 harg9 arg10 harg10 arg11 harg11 arg12 harg12 arg13 harg13 arg14 harg14 h1 (cond_12 t h1) (cond_23 t (cond_12 t h1)) X3 X4 X5 X6 X7 X8 X9 X10 X11
  else if h2 : k0_cond2 (grid0.coords t) = 1#1 then runEven c (grid0.coords t) arg3 harg3 arg4 harg4 arg5 harg5 arg6 harg6 arg7 harg7 arg8 harg8 arg9 harg9 arg10 harg10 arg11 harg11 arg12 harg12 arg13 harg13 arg14 harg14 h1 h2 (cond_23 t h2) X3 X4 X5 X6 X7 X8 X9 X10 X11
  else runOdd c (grid0.coords t) arg3 harg3 arg4 harg4 arg5 harg5 arg6 harg6 arg7 harg7 arg8 harg8 arg9 harg9 arg10 harg10 arg11 harg11 arg12 harg12 arg13 harg13 arg14 harg14 h1 h2 (cond_3 t h2) X3 X4 X5 X6 X7 X8 X9 X10 X11

theorem runAt_first (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (h1 : k0_cond1 (grid0.coords t) = 1#1) :
    runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11 = runFirst c (grid0.coords t) arg3 harg3 arg4 harg4 arg5 harg5 arg6 harg6 arg7 harg7 arg8 harg8 arg9 harg9 arg10 harg10 arg11 harg11 arg12 harg12 arg13 harg13 arg14 harg14 h1 (cond_12 t h1) (cond_23 t (cond_12 t h1)) X3 X4 X5 X6 X7 X8 X9 X10 X11 := dif_pos h1

theorem runAt_even (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (h1 : ¬ k0_cond1 (grid0.coords t) = 1#1) (h2 : k0_cond2 (grid0.coords t) = 1#1) :
    runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11 = runEven c (grid0.coords t) arg3 harg3 arg4 harg4 arg5 harg5 arg6 harg6 arg7 harg7 arg8 harg8 arg9 harg9 arg10 harg10 arg11 harg11 arg12 harg12 arg13 harg13 arg14 harg14 h1 h2 (cond_23 t h2) X3 X4 X5 X6 X7 X8 X9 X10 X11 := (dif_neg h1).trans (dif_pos h2)

theorem runAt_odd (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (h1 : ¬ k0_cond1 (grid0.coords t) = 1#1) (h2 : ¬ k0_cond2 (grid0.coords t) = 1#1) :
    runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11 = runOdd c (grid0.coords t) arg3 harg3 arg4 harg4 arg5 harg5 arg6 harg6 arg7 harg7 arg8 harg8 arg9 harg9 arg10 harg10 arg11 harg11 arg12 harg12 arg13 harg13 arg14 harg14 h1 h2 (cond_3 t h2) X3 X4 X5 X6 X7 X8 X9 X10 X11 := (dif_neg h1).trans (dif_neg h2)

set_option maxHeartbeats 4000000 in
/-- What the body leaves doesn't depend on the accumulators it finds. -/
theorem runAt_indep (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f13 g13 : BufTy.Contents (Elt F) arg13.view.ty) (f14 : BufTy.Contents (Elt F) arg14.view.ty) :
    (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).1 f13 f14 = (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).1 g13 f14 ∧ (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).2.2.1 f13 f14 = (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).2.2.1 g13 f14 := by
  by_cases h1 : k0_cond1 (grid0.coords t) = 1#1
  · rw [runAt_first (h1 := h1)]
    constructor <;> (delta runFirst; rfl)
  · by_cases h2 : k0_cond2 (grid0.coords t) = 1#1
    · rw [runAt_even (h1 := h1) (h2 := h2)]
      constructor <;> (delta runEven; rfl)
    · rw [runAt_odd (h1 := h1) (h2 := h2)]
      constructor <;> (delta runOdd; rfl)

set_option maxHeartbeats 4000000 in
/-- At a point that opens a batch it doesn't depend on the scores it finds either. -/
theorem runAt_indep_first (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (h1 : k0_cond1 (grid0.coords t) = 1#1) (f13 : BufTy.Contents (Elt F) arg13.view.ty) (f14 g14 : BufTy.Contents (Elt F) arg14.view.ty) :
    (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).1 f13 f14 = (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).1 f13 g14 ∧ (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).2.2.1 f13 f14 = (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).2.2.1 f13 g14 := by
  rw [runAt_first (h1 := h1)]
  constructor <;> (delta runFirst; rfl)

set_option maxHeartbeats 4000000 in
/-- The output block is covered by the body's stores. -/
theorem runAt_cover (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f13 : BufTy.Contents (Elt F) arg13.view.ty) (f14 : BufTy.Contents (Elt F) arg14.view.ty) (y : S1x256x1024.Idx) :
    ∃ p ∈ (runAt (F := F) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).1 f13 f14, y ∈ p.1.set := by
  by_cases h1 : k0_cond1 (grid0.coords t) = 1#1
  · rw [runAt_first (h1 := h1)]
    delta runFirst; dsimp only; refine View.cover_of_tiled (s := S1x256x1024) _ (![1, 256, 128] : Fin 3 → ℕ) ?_ y; rfl
  · by_cases h2 : k0_cond2 (grid0.coords t) = 1#1
    · rw [runAt_even (h1 := h1) (h2 := h2)]
      delta runEven; dsimp only; refine View.cover_of_tiled (s := S1x256x1024) _ (![1, 256, 128] : Fin 3 → ℕ) ?_ y; rfl
    · rw [runAt_odd (h1 := h1) (h2 := h2)]
      delta runOdd; dsimp only; refine View.cover_of_tiled (s := S1x256x1024) _ (![1, 256, 128] : Fin 3 → ℕ) ?_ y; rfl

end Cert.Proof.Attn

end
-- ==== Proof.AttnBody.lean ====
/-
  The attention program's frame: the body's triple at every grid point, the scores carried from one point to the next,
  and the launch.
-/
module
public import proofs.«01_k».proof.Proof.AttnRun
public import proofs.«01_k».proof.Proof.Gen.KernelIdeal.Frame
public import proofs.«01_k».proof.Proof.Gen.KernelIdeal.Loops
public import proofs.«01_k».proof.Proof.Gen.KernelIdeal.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

abbrev C13 (F : FTy → Type) := BufTy.Contents (Elt F) (Memref.whole cc0_scratch0).view.ty
abbrev C14 (F : FTy → Type) := BufTy.Contents (Elt F) (Memref.whole cc0_scratch1).view.ty

/-- What the body stores in the output block at point `t`, from what it finds in the scratch arrays. -/
@[irreducible] def pt12 (c : Dev nD) (t : Fin cfg0.N) (f13 : C13 F) (f14 : C14 F) : List (View.Piece (Elt F) S1x256x1024 .bf16) :=
  (runAt c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))).1 f13 f14

/-- What it leaves in the accumulators, -/
@[irreducible] def pt13 (c : Dev nD) (t : Fin cfg0.N) (f13 : C13 F) (f14 : C14 F) : C13 F :=
  (runAt c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))).2.1 f13 f14

/-- and in the scores. -/
@[irreducible] def pt14 (c : Dev nD) (t : Fin cfg0.N) (f13 : C13 F) (f14 : C14 F) : C14 F :=
  (runAt c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))).2.2.1 f13 f14

/-- The scores carried into point `n`. -/
def sc (c : Dev nD) : ℕ → C14 F
  | 0 => (Memref.whole cc0_scratch1).view.junk
  | n + 1 => if h : n < cfg0.N then pt14 m c ⟨n, h⟩ (Memref.whole cc0_scratch0).view.junk (sc c n) else (Memref.whole cc0_scratch1).view.junk

theorem sc_succ (c : Dev nD) (t : Fin cfg0.N) : sc m c (t.val + 1) = pt14 m c t (Memref.whole cc0_scratch0).view.junk (sc m c t.val) := by
  rw [sc]; exact dif_pos t.isLt

/-- The output block after the body at point `t`. -/
def out12 (c : Dev nD) (t : Fin cfg0.N) : Vec F S1x256x1024 .bf16 :=
  View.canon (pt12 m c t (Memref.whole cc0_scratch0).view.junk (sc m c t.val))

/-- The scores the body leaves, whatever the accumulators held, are those carried into the next point. -/
theorem pt14_eq (c : Dev nD) (t : Fin cfg0.N) (f13 : C13 F) (f14 : C14 F) (h : t.val % 16 ≠ 0 → f14 = sc m c t.val) :
    pt14 m c t f13 f14 = sc m c (t.val + 1) := by
  rw [sc_succ]
  by_cases h0 : t.val % 16 = 0
  · unfold pt14
    exact ((runAt_indep c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) f13 _ f14).2).trans (runAt_indep_first c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((cond_1 t).2 h0) _ f14 _).2
  · rw [h h0]
    unfold pt14
    exact (runAt_indep c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) f13 _ _).2

/-- The pieces the body stores, whatever the accumulators held. -/
theorem pt12_eq (c : Dev nD) (t : Fin cfg0.N) (f13 : C13 F) (f14 : C14 F) (h : t.val % 16 ≠ 0 → f14 = sc m c t.val) :
    pt12 m c t f13 f14 = pt12 m c t (Memref.whole cc0_scratch0).view.junk (sc m c t.val) := by
  by_cases h0 : t.val % 16 = 0
  · unfold pt12
    exact ((runAt_indep c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) f13 _ f14).1).trans (runAt_indep_first c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((cond_1 t).2 h0) _ f14 _).1
  · rw [h h0]
    unfold pt12
    exact (runAt_indep c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) f13 _ _).1

theorem pt12_cover (c : Dev nD) (t : Fin cfg0.N) (f13 : C13 F) (f14 : C14 F) (y : S1x256x1024.Idx) : ∃ p ∈ pt12 m c t f13 f14, y ∈ p.1.set := by
  unfold pt12
  exact runAt_cover c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) f13 f14 y

/-- What is carried between points: the two scratch arrays, the scores known except where a batch opens, and the
generator register. -/
def Φs (c : Dev nD) (n : ℕ) : sProp 𝕄 :=
  iprop(∃ f13 : C13 F, ∃ f14 : C14 F, ((Memref.whole cc0_scratch0).view.loc (c : Thread nD τ) ↦[(Memref.whole cc0_scratch0).view.set]{fullShare} f13)
    ∗ ((Memref.whole cc0_scratch1).view.loc (c : Thread nD τ) ↦[(Memref.whole cc0_scratch1).view.set]{fullShare} f14)
    ∗ ⌜n % 16 ≠ 0 → f14 = sc m c n⌝ ∗ ∃ r, prngReg c r)

/-- The proof data: the arrays as the region finds them, each input's buffer at its block after the body, the output's at
`out12`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out12 m c t
  Φ t := Φs m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out12 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- A triple with its continuation. -/
theorem wp_cont {c : Dev nD} {p : Prog (TpuEff nD τ sig (Elt F) Λ₀ .tc) PUnit} {P Q : sProp 𝕄} {K : PUnit → sProp 𝕄}
    (h : P ⊢ wp frame (wpE (defs₀ (F := F)) Variants.none (c : Thread nD τ) none) Set.univ p (fun _ => Q)) :
    iprop(P ∗ (Q -∗ K ⟨⟩)) ⊢ wp frame (wpE (defs₀ (F := F)) Variants.none (c : Thread nD τ) none) Set.univ p K := by
  iintro ⟨HP, HK⟩
  iapply (wp_wand_r frame (wpE (defs₀ (F := F)) Variants.none (c : Thread nD τ) none) Set.univ)
  isplitl [HP]
  · iapply h; iexact HP
  iintro %a HQ
  iapply HK; iexact HQ

/-- The body's triple at point `t`, with the contents named. -/
theorem run_pt (c : Dev nD) (t : Fin cfg0.N) (f12 : BufTy.Contents (Elt F) (st0_9 t).view.ty) (f13 : C13 F) (f14 : C14 F) (K : PUnit → sProp 𝕄) :
    (iprop((((st0_0 t).view.loc (c : Thread nD τ) ↦[(st0_0 t).view.set]{fullShare} (hstage0_0 ((cfg0.slots t 0).cast nbuf0_0)).unread (iblk m c 0 t)) ∗ ((st0_1 t).view.loc (c : Thread nD τ) ↦[(st0_1 t).view.set]{fullShare} (hstage0_1 ((cfg0.slots t 1).cast nbuf0_1)).unread (iblk m c 1 t)) ∗ ((st0_2 t).view.loc (c : Thread nD τ) ↦[(st0_2 t).view.set]{fullShare} (hstage0_2 ((cfg0.slots t 2).cast nbuf0_2)).unread (iblk m c 2 t)) ∗ ((st0_3 t).view.loc (c : Thread nD τ) ↦[(st0_3 t).view.set]{fullShare} (hstage0_3 ((cfg0.slots t 3).cast nbuf0_3)).unread (iblk m c 3 t)) ∗ ((st0_4 t).view.loc (c : Thread nD τ) ↦[(st0_4 t).view.set]{fullShare} (hstage0_4 ((cfg0.slots t 4).cast nbuf0_4)).unread (iblk m c 4 t)) ∗ ((st0_5 t).view.loc (c : Thread nD τ) ↦[(st0_5 t).view.set]{fullShare} (hstage0_5 ((cfg0.slots t 5).cast nbuf0_5)).unread (iblk m c 5 t)) ∗ ((st0_6 t).view.loc (c : Thread nD τ) ↦[(st0_6 t).view.set]{fullShare} (hstage0_6 ((cfg0.slots t 6).cast nbuf0_6)).unread (iblk m c 6 t)) ∗ ((st0_7 t).view.loc (c : Thread nD τ) ↦[(st0_7 t).view.set]{fullShare} (hstage0_7 ((cfg0.slots t 7).cast nbuf0_7)).unread (iblk m c 7 t)) ∗ ((st0_8 t).view.loc (c : Thread nD τ) ↦[(st0_8 t).view.set]{fullShare} (hstage0_8 ((cfg0.slots t 8).cast nbuf0_8)).unread (iblk m c 8 t))
      ∗ ((st0_9 t).view.loc (c : Thread nD τ) ↦[(st0_9 t).view.set]{fullShare} f12)
      ∗ ((Memref.whole cc0_scratch0).view.loc (c : Thread nD τ) ↦[(Memref.whole cc0_scratch0).view.set]{fullShare} f13)
      ∗ ((Memref.whole cc0_scratch1).view.loc (c : Thread nD τ) ↦[(Memref.whole cc0_scratch1).view.set]{fullShare} f14)) ∗ ((((st0_0 t).view.loc (c : Thread nD τ) ↦[(st0_0 t).view.set]{fullShare} (hstage0_0 ((cfg0.slots t 0).cast nbuf0_0)).unread (iblk m c 0 t)) ∗ ((st0_1 t).view.loc (c : Thread nD τ) ↦[(st0_1 t).view.set]{fullShare} (hstage0_1 ((cfg0.slots t 1).cast nbuf0_1)).unread (iblk m c 1 t)) ∗ ((st0_2 t).view.loc (c : Thread nD τ) ↦[(st0_2 t).view.set]{fullShare} (hstage0_2 ((cfg0.slots t 2).cast nbuf0_2)).unread (iblk m c 2 t)) ∗ ((st0_3 t).view.loc (c : Thread nD τ) ↦[(st0_3 t).view.set]{fullShare} (hstage0_3 ((cfg0.slots t 3).cast nbuf0_3)).unread (iblk m c 3 t)) ∗ ((st0_4 t).view.loc (c : Thread nD τ) ↦[(st0_4 t).view.set]{fullShare} (hstage0_4 ((cfg0.slots t 4).cast nbuf0_4)).unread (iblk m c 4 t)) ∗ ((st0_5 t).view.loc (c : Thread nD τ) ↦[(st0_5 t).view.set]{fullShare} (hstage0_5 ((cfg0.slots t 5).cast nbuf0_5)).unread (iblk m c 5 t)) ∗ ((st0_6 t).view.loc (c : Thread nD τ) ↦[(st0_6 t).view.set]{fullShare} (hstage0_6 ((cfg0.slots t 6).cast nbuf0_6)).unread (iblk m c 6 t)) ∗ ((st0_7 t).view.loc (c : Thread nD τ) ↦[(st0_7 t).view.set]{fullShare} (hstage0_7 ((cfg0.slots t 7).cast nbuf0_7)).unread (iblk m c 7 t)) ∗ ((st0_8 t).view.loc (c : Thread nD τ) ↦[(st0_8 t).view.set]{fullShare} (hstage0_8 ((cfg0.slots t 8).cast nbuf0_8)).unread (iblk m c 8 t))
      ∗ ((st0_9 t).view.loc (c : Thread nD τ) ↦[(st0_9 t).view.set]{fullShare} (st0_9 t).view.writes (Elt F) f12 (pt12 m c t f13 f14))
      ∗ ((Memref.whole cc0_scratch0).view.loc (c : Thread nD τ) ↦[(Memref.whole cc0_scratch0).view.set]{fullShare} pt13 m c t f13 f14)
      ∗ ((Memref.whole cc0_scratch1).view.loc (c : Thread nD τ) ↦[(Memref.whole cc0_scratch1).view.set]{fullShare} pt14 m c t f13 f14)) -∗ K ⟨⟩)) : sProp 𝕄)
    ⊢ wp frame (wpE (defs₀ (F := F)) Variants.none (c : Thread nD τ) none) Set.univ (bodyAt0 t) K := by
  unfold pt12 pt13 pt14
  exact wp_cont ((runAt c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))).2.2.2 f12 f13 f14)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).Φ t.succ = Φs m c (t.val + 1) from rfl, show (dats m 0 c).Φ t.castSucc = Φs m c t.val from rfl,
    show (dats m 0 c).owesAt () t.succ = (dats m 0 c).owesAt () t.castSucc from rfl,
    after0_0, after0_1, after0_2, after0_3, after0_4, after0_5, after0_6, after0_7, after0_8, after0_9]
  unfold owns Φs
  iintro ⟨⟨%f13, %f14, H13, H14, %h14, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  obtain rfl := (hstage0_3 ((cfg0.slots t 3).cast nbuf0_3)).eq_unread hf3
  obtain rfl := (hstage0_4 ((cfg0.slots t 4).cast nbuf0_4)).eq_unread hf4
  obtain rfl := (hstage0_5 ((cfg0.slots t 5).cast nbuf0_5)).eq_unread hf5
  obtain rfl := (hstage0_6 ((cfg0.slots t 6).cast nbuf0_6)).eq_unread hf6
  obtain rfl := (hstage0_7 ((cfg0.slots t 7).cast nbuf0_7)).eq_unread hf7
  obtain rfl := (hstage0_8 ((cfg0.slots t 8).cast nbuf0_8)).eq_unread hf8
  iapply (run_pt m c t f9 f13 f14 _)
  isplitl [H0 H1 H2 H3 H4 H5 H6 H7 H8 H9 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H13]; · iexact H13
    iexact H14
  iintro ⟨H0, H1, H2, H3, H4, H5, H6, H7, H8, H9, H13, H14⟩
  isplitl [H13 H14 Hp]
  · iexists _; iexists _
    isplitl [H13]; · iexact H13
    isplitl [H14]; · iexact H14
    isplitr
    · ipureintro; intro _; exact pt14_eq m c t f13 f14 h14
    iexact Hp
  isplitl [Ho]; · iexact Ho
  isplitl [H0]
  · iexists _; isplitr; · ipureintro; exact (hstage0_0 ((cfg0.slots t 0).cast nbuf0_0)).read_unread _
    iexact H0
  isplitl [H1]
  · iexists _; isplitr; · ipureintro; exact (hstage0_1 ((cfg0.slots t 1).cast nbuf0_1)).read_unread _
    iexact H1
  isplitl [H2]
  · iexists _; isplitr; · ipureintro; exact (hstage0_2 ((cfg0.slots t 2).cast nbuf0_2)).read_unread _
    iexact H2
  isplitl [H3]
  · iexists _; isplitr; · ipureintro; exact (hstage0_3 ((cfg0.slots t 3).cast nbuf0_3)).read_unread _
    iexact H3
  isplitl [H4]
  · iexists _; isplitr; · ipureintro; exact (hstage0_4 ((cfg0.slots t 4).cast nbuf0_4)).read_unread _
    iexact H4
  isplitl [H5]
  · iexists _; isplitr; · ipureintro; exact (hstage0_5 ((cfg0.slots t 5).cast nbuf0_5)).read_unread _
    iexact H5
  isplitl [H6]
  · iexists _; isplitr; · ipureintro; exact (hstage0_6 ((cfg0.slots t 6).cast nbuf0_6)).read_unread _
    iexact H6
  isplitl [H7]
  · iexists _; isplitr; · ipureintro; exact (hstage0_7 ((cfg0.slots t 7).cast nbuf0_7)).read_unread _
    iexact H7
  isplitl [H8]
  · iexists _; isplitr; · ipureintro; exact (hstage0_8 ((cfg0.slots t 8).cast nbuf0_8)).read_unread _
    iexact H8
  iexists _; isplitr
  swap; · iexact H9
  ipureintro
  rw [View.read_writes_eq_canon _ _ _ (pt12_cover m c t f13 f14), pt12_eq m c t f13 f14 h14]
  rfl

end Cert.Proof.Attn

end
-- ==== Proof.AttnFrame.lean ====
/-
  The attention program's frame: the body obligation and the launch.
-/
module
public import proofs.«01_k».proof.Proof.AttnBody
public import Idealize.ShloMosaic.Lib.Claim
public import Idealize.ShloMosaic.Lib.Ring
public import proofs.«01_k».proof.Proof.Gen.KernelIdeal.Loops
public import proofs.«01_k».proof.Proof.Gen.KernelIdeal.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The output window is written at every point. -/
theorem idle_9 : ∀ t : Fin cfg0.N, cfg0.idle 9 (cfg0.grid.coords t) = false :=
  (by decide +kernel : ∀ t : Fin grid0.N, cfg0.idle 9 (cfg0.grid.coords t) = false)

set_option maxHeartbeats 2000000 in
/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [show cfg0.idle 9 (cfg0.grid.coords t) = false from idle_9 t]
  iexact H9

theorem phi_in (c : Dev nD) : (Pipeline.ΦA spec0 c : sProp 𝕄) ⊢ Φs m c 0 := by
  unfold Pipeline.ΦA Φs
  simp only [Memref.view_whole, View.set_whole]
  rw [scopedRest0_eq]
  iintro ⟨⟨⟨%f13, H13⟩, ⟨%f14, H14⟩⟩, Hp⟩
  iexists f13; iexists f14
  isplitl [H13]; · iexact H13
  isplitl [H14]; · iexact H14
  isplitr
  · ipureintro; intro h; exact absurd rfl h
  iexact Hp

theorem phi_out (c : Dev nD) (n : ℕ) : (Φs m c n : sProp 𝕄) ⊢ Pipeline.ΦA spec0 c := by
  unfold Pipeline.ΦA Φs
  simp only [Memref.view_whole, View.set_whole]
  rw [scopedRest0_eq]
  iintro ⟨%f13, %f14, H13, H14, -, Hp⟩
  isplitr [Hp]
  · isplitl [H13]
    · iexists f13; iexact H13
    · iexists f14; iexact H14
  iexact Hp

set_option backward.isDefEq.respectTransparency.types false in
set_option maxHeartbeats 800000 in
/-- The launch: every run ends with the pipeline's arrays at what the proof data say, the rest as it was, and every
semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => by dsimp only [dats])
    (howed := fun _ _ => rfl) (V := V m) (hmain := hmain m Variants.none) (hA := A_eq m) (hin := phi_in m) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.Attn

end
-- ==== Proof.BitsRunFirst.lean ====
module
public import proofs.«01_k».proof.Proof.Gen.Kernel.Loops
public import proofs.«01_k».proof.Proof.Gen.Kernel.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.AttnBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The attention body at a query block that opens a batch (so an even one): from its arguments at any contents it runs to their
contents unchanged, with the pieces named here written into the output block and the two scratch arrays at the contents named here. -/
@[irreducible] def runFirst (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (hc1 : k0_cond1 i = 1#1) (hc2 : k0_cond2 i = 1#1) (hc3 : ¬ k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } := by
  refine ⟨?_, ?_, ?_, fun f12 f13 f14 => ?run⟩
  case run =>
    unfold cc0_attn
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    iintro ⟨H3, H4, H5, H6, H7, H8, H9, H10, H11, H12, H13, H14⟩
    sl_exec
    sl_step
    sl_close

end Cert.Proof.AttnBits

end
-- ==== Proof.BitsRunEven.lean ====
module
public import proofs.«01_k».proof.Proof.Gen.Kernel.Loops
public import proofs.«01_k».proof.Proof.Gen.Kernel.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.AttnBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The attention body at a later even query block: from its arguments at any contents it runs to their
contents unchanged, with the pieces named here written into the output block and the two scratch arrays at the contents named here. -/
@[irreducible] def runEven (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (hc1 : ¬ k0_cond1 i = 1#1) (hc2 : k0_cond2 i = 1#1) (hc3 : ¬ k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } := by
  refine ⟨?_, ?_, ?_, fun f12 f13 f14 => ?run⟩
  case run =>
    unfold cc0_attn
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    iintro ⟨H3, H4, H5, H6, H7, H8, H9, H10, H11, H12, H13, H14⟩
    sl_exec
    sl_step
    sl_close

end Cert.Proof.AttnBits

end
-- ==== Proof.BitsRunOdd.lean ====
module
public import proofs.«01_k».proof.Proof.Gen.Kernel.Loops
public import proofs.«01_k».proof.Proof.Gen.Kernel.Points
public import Idealize.ShloMosaic.Lib.LoopRemainder
public import Idealize.ShloMosaic.Lib.Tactic
public import Idealize.ShloMosaic.Lib.Pipeline.FrameBody

@[expose] public section

set_option maxRecDepth 16384

noncomputable section

namespace Cert.Proof.AttnBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The attention body at an odd query block: from its arguments at any contents it runs to their
contents unchanged, with the pieces named here written into the output block and the two scratch arrays at the contents named here. -/
@[irreducible] def runOdd (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (hc1 : ¬ k0_cond1 i = 1#1) (hc2 : ¬ k0_cond2 i = 1#1) (hc3 : k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
    Σ' (L12 : BufTy.Contents (Elt F) arg13.view.ty → BufTy.Contents (Elt F) arg14.view.ty → List (View.Piece (Elt F) S1x256x1024 .bf16)) (G13 : BufTy.Contents (Elt F) arg13.view.ty → BufTy.Contents (Elt F) arg14.view.ty → BufTy.Contents (Elt F) arg13.view.ty), { G14 : BufTy.Contents (Elt F) arg13.view.ty → BufTy.Contents (Elt F) arg14.view.ty → BufTy.Contents (Elt F) arg14.view.ty // ∀ (f12 : BufTy.Contents (Elt F) arg12.view.ty) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 (L12 f13 f14))) ∗ (arg13.view.loc (c : Thread nD τ) ↦[arg13.view.set]{fullShare} (G13 f13 f14)) ∗ (arg14.view.loc (c : Thread nD τ) ↦[arg14.view.set]{fullShare} (G14 f13 f14)))) } := by
  refine ⟨?_, ?_, ?_, fun f12 f13 f14 => ?run⟩
  case run =>
    unfold cc0_attn
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    iintro ⟨H3, H4, H5, H6, H7, H8, H9, H10, H11, H12, H13, H14⟩
    sl_exec
    sl_step
    sl_close

end Cert.Proof.AttnBits

end
-- ==== Proof.AttnClaims.lean ====
/- The attention call's claims. -/
module

public import proofs.«01_k».proof.Defs
public import proofs.«01_k».proof.Proof.AttnFrame
public import proofs.«01_k».proof.Proof.BitsFrame
public import proofs.«01_k».proof.Proof.Gen.ReferenceIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Attn

/-- The compiled program runs, leaves its arguments and every counter as they were. -/
theorem frame_k : Cert.quiescent_Kernel := fun m ρ _ => Cert.Proof.AttnBits.frame_all m ρ

/-- So does the idealized program. -/
theorem frame_ki : Cert.quiescent_KernelIdeal := fun m ρ _ => Cert.Proof.Attn.frame_all m ρ

/-- So does the reference. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named mask is what it stands for. -/
theorem preserves_k : Cert.preserves_Kernel_KernelIdeal := IdealRules.named_const.statement Cert.KernelIdeal.κ "mask" .f32 0xF149F2CA#32 ⊥ rfl

end Cert.Proof.Attn

end
-- ==== Proof.AttnOps.lean ====
/-
  The attention kernel's vector operations, one definition for all of its sixteen score chains: chain `c` is head
  `c / 2`, half `c % 2`.
-/
module
public import proofs.«01_k».proof.Proof.Gen.KernelIdeal.Skeleton

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-- Row `c` of a 16-row matrix is a slice of it. -/
theorem slices_row (c : Fin 16) : S16x256.Slices ![c.val, 0] S1x256 :=
  ⟨rfl, Fin.forall_fin_two.mpr ⟨by show c.val + 1 ≤ 16; omega, by show 0 + 256 ≤ 256; omega⟩⟩

/-- Row `c` of the running maxima. -/
def mRow (c : Fin 16) (M : FVec F S16x256 .f32) : FVec F S1x256 .f32 := extractStridedSlice S1x256 ![c.val, 0] M (slices_row c)

/-- The scores of one chain: a key window times the chain's query operand. -/
def scores (q : FVec F S128x256 .bf16) (k : Vec F S1x512x128 .bf16) : FVec F S1x512x256 .f32 :=
  shapeCast S1x512x256 (matmul dot_S512x128_S128x256_S512x256_1_0_0_1_n_n none (shapeCast S512x128 k shapeCasts_S1x512x128_S512x128) q (constant S512x256 .f32 0x00000000#32)) shapeCasts_S512x256_S1x512x256

/-- A chain's new running maximum: the old one against the column maxima of its scores. -/
def mNew (c : Fin 16) (M : FVec F S16x256 .f32) (S : Vec F S1x512x256 .f32) : FVec F S1x256 .f32 :=
  maximumf (mRow c M) (shapeCast S1x256 (multiReduction .maximumf [0] S256 (shapeCast S512x256 S shapeCasts_S1x512x256_S512x256) 0xFF800000#32 reduces_S512x256_S256 (.inl rfl) rfl) shapeCasts_S256_S1x256)

/-- The running maxima with row `c` replaced by the chain's new one. -/
def mUpd (c : Fin 16) (crow : IVec S16x256 32) (M : FVec F S16x256 .f32) (S : Vec F S1x512x256 .f32) : FVec F S16x256 .f32 :=
  select (cmpi .eq crow (broadcast S16x256 (BitVec.ofNat 32 c.val))) (broadcastTo S16x256 (shapeCast S1x256 (mNew c M S) shapeCasts_S1x256_S1x256) broadcasts_S1x256_S16x256) M

/-- The running maxima after the first `n` chains. -/
def mChain (crow : IVec S16x256 32) (S : Fin 16 → Vec F S1x512x256 .f32) (M : FVec F S16x256 .f32) : (n : ℕ) → n ≤ 16 → FVec F S16x256 .f32
  | 0, _ => M
  | n + 1, h => mUpd ⟨n, h⟩ crow (mChain crow S M n (Nat.le_of_succ_le h)) (S ⟨n, h⟩)

/-- A pair of value blocks side by side over sixteen rows of ones. -/
def vOnes (V0 V1 : Vec F S1x1x1x128x256 .bf16) : FVec F S144x512 .bf16 :=
  concatenate S144x512 0 [⟨S128x512, concatenate S128x512 1 [⟨S128x256, shapeCast S128x256 V0 shapeCasts_S1x1x1x128x256_S128x256⟩, ⟨S128x256, shapeCast S128x256 V1 shapeCasts_S1x1x1x128x256_S128x256⟩] concatenates_S128x256_S128x256_S128x512_d1⟩, ⟨S16x512, broadcast S16x512 (Scalar.ofBits .bf16 0x3F80#16)⟩] concatenates_S128x512_S16x512_S144x512_d0

/-- A chain's accumulator after one pair of key blocks: the old one scaled to the new maximum, plus the values (and the
ones under them) times the exponentials of the scores. -/
def accStep (c : Fin 16) (M : FVec F S16x256 .f32) (S : Vec F S1x512x256 .f32) (V0 V1 : Vec F S1x1x1x128x256 .bf16) (A : Vec F S1x144x256 .f32) : FVec F S1x144x256 .f32 :=
  shapeCast S1x144x256 (addf (mulf (shapeCast S144x256 A shapeCasts_S1x144x256_S144x256) (broadcastTo S144x256 (exp2 (subf (mRow c M) (mNew c M S))) broadcasts_S1x256_S144x256))
    (matmul dot_S144x512_S512x256_S144x256_1_0_0_1_n_n none (vOnes V0 V1)
      (truncf .bf16 (exp2 (subf (shapeCast S512x256 S shapeCasts_S1x512x256_S512x256) (broadcastTo S512x256 (mNew c M S) broadcasts_S1x256_S512x256))) bitsLt_bf16_f32)
      (constant S144x256 .f32 0x00000000#32))) shapeCasts_S144x256_S1x144x256

end Cert.Proof.Attn

end
-- ==== Proof.AttnTrip.lean ====
/-
  One trip of the attention kernel's loop over pairs of key blocks: its stores, written as the sixteen chains' tiles.
-/
module
public import proofs.«01_k».proof.Proof.Gen.KernelIdeal.Loops
public import proofs.«01_k».proof.Proof.AttnOps
public import Idealize.ShloMosaic.Lib.WritesUnit

@[expose] public section

set_option maxRecDepth 16384
set_option maxHeartbeats 4000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-- The offset of a head's value block in a trip. -/
def vOff (i : grid0.Coords) (k : Fin (k0_t1_loop i).trips) : Fin 8 → BitVec 32 → Fin 5 → Nat :=
  ![k0_off1 i k, k0_off3 i k, k0_off5 i k, k0_off7 i k, k0_off9 i k, k0_off11 i k, k0_off13 i k, k0_off15 i k]

/-- The offset of a head's key window in a trip. -/
def kOff (i : grid0.Coords) (k : Fin (k0_t1_loop i).trips) : Fin 8 → Fin 3 → Nat :=
  ![k0_off2 i k, k0_off4 i k, k0_off6 i k, k0_off8 i k, k0_off10 i k, k0_off12 i k, k0_off14 i k, k0_off16 i k]

theorem vOff_inb (i : grid0.Coords) (k : Fin (k0_t1_loop i).trips) (h : Fin 8) (r : Fin 2) :
    ∀ a, vOff i k h (BitVec.ofNat 32 r.val) a + S1x1x1x128x256.size a ≤ S1x16x8x128x256.size a := by
  fin_cases h
  · exact k0_off1_inb i k r
  · exact k0_off3_inb i k r
  · exact k0_off5_inb i k r
  · exact k0_off7_inb i k r
  · exact k0_off9_inb i k r
  · exact k0_off11_inb i k r
  · exact k0_off13_inb i k r
  · exact k0_off15_inb i k r

theorem kOff_inb (i : grid0.Coords) (k : Fin (k0_t1_loop i).trips) (h : Fin 8) :
    ∀ a, kOff i k h a + S1x512x128.size a ≤ S1x4096x1024.size a := by
  fin_cases h
  · exact k0_off2_inb i k
  · exact k0_off4_inb i k
  · exact k0_off6_inb i k
  · exact k0_off8_inb i k
  · exact k0_off10_inb i k
  · exact k0_off12_inb i k
  · exact k0_off14_inb i k
  · exact k0_off16_inb i k

theorem row13_inb (c : Fin 16) : ∀ a, (![c.val, 0, 0] : Fin 3 → ℕ) a + S1x144x256.size a ≤ S16x144x256.size a := by
  intro a; fin_cases a
  · show c.val + 1 ≤ 16; omega
  · show 0 + 144 ≤ 144; omega
  · show 0 + 256 ≤ 256; omega

theorem row14_inb (c : Fin 16) : ∀ a, (![c.val, 0, 0] : Fin 3 → ℕ) a + S1x512x256.size a ≤ S16x512x256.size a := by
  intro a; fin_cases a
  · show c.val + 1 ≤ 16; omega
  · show 0 + 512 ≤ 512; omega
  · show 0 + 256 ≤ 256; omega

/-- The head of a chain. -/
def hd (c : Fin 16) : Fin 8 := ⟨c.val / 2, by omega⟩

/-- Chain `c`'s row of the accumulators. -/
def row13 (v : View sig .tc .vmem S16x144x256 .f32) (f : v.ty.Contents (Elt F)) (c : Fin 16) : Vec F S1x144x256 .f32 :=
  View.readAt (Elt F) v (Rect.unit (s := S16x144x256) ![c.val, 0, 0] S1x144x256.size (row13_inb c)).toLoadRect f

/-- Chain `c`'s row of the scores. -/
def row14 (v : View sig .tc .vmem S16x512x256 .f32) (f : v.ty.Contents (Elt F)) (c : Fin 16) : Vec F S1x512x256 .f32 :=
  View.readAt (Elt F) v (Rect.unit (s := S16x512x256) ![c.val, 0, 0] S1x512x256.size (row14_inb c)).toLoadRect f

/-- A value block of a trip. -/
def vBlk (i : grid0.Coords) (k : Fin (k0_t1_loop i).trips) (v : View sig .tc .vmem S1x16x8x128x256 .bf16) (f : v.ty.Contents (Elt F)) (c : Fin 16) (r : Fin 2) : Vec F S1x1x1x128x256 .bf16 :=
  View.readAt (Elt F) v (Rect.unit (s := S1x16x8x128x256) (vOff i k (hd c) (BitVec.ofNat 32 r.val)) S1x1x1x128x256.size (vOff_inb i k (hd c) r)).toLoadRect f

/-- The key window of a trip. -/
def kBlk (i : grid0.Coords) (k : Fin (k0_t1_loop i).trips) (v : View sig .tc .vmem S1x4096x1024 .bf16) (f : v.ty.Contents (Elt F)) (c : Fin 16) : Vec F S1x512x128 .bf16 :=
  View.readAt (Elt F) v (Rect.unit (s := S1x4096x1024) (kOff i k (hd c)) S1x512x128.size (kOff_inb i k (hd c))).toLoadRect f

section

variable (𝒱 : Variants) (c : Dev nD) (bd : Option 𝒱.V) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (arg2 : BitVec 32) (v6 : FVec F S128x256 .bf16) (v10 : FVec F S128x256 .bf16) (v17 : FVec F S128x256 .bf16) (v21 : FVec F S128x256 .bf16) (v28 : FVec F S128x256 .bf16) (v32 : FVec F S128x256 .bf16) (v39 : FVec F S128x256 .bf16) (v43 : FVec F S128x256 .bf16) (v50 : FVec F S128x256 .bf16) (v54 : FVec F S128x256 .bf16) (v61 : FVec F S128x256 .bf16) (v65 : FVec F S128x256 .bf16) (v72 : FVec F S128x256 .bf16) (v76 : FVec F S128x256 .bf16) (v83 : FVec F S128x256 .bf16) (v87 : FVec F S128x256 .bf16) (v183 : IVec S16x256 32) (v184 : BitVec 32) (v198 : BitVec 1) (X_arg5 : BufTy.Contents (Elt F) arg5.view.ty) (X_arg6 : BufTy.Contents (Elt F) arg6.view.ty) (k : Fin (k0_t1_loop i).trips)

/-- What a trip stores in the accumulators. -/
theorem trip_acc (acc : FVec F S16x256 .f32) (f13 : BufTy.Contents (Elt F) arg13.view.ty) (f14 : BufTy.Contents (Elt F) arg14.view.ty) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg2 v6 v10 v17 v21 v28 v32 v39 v43 v50 v54 v61 v65 v72 v76 v83 v87 v183 v184 v198 X_arg5 X_arg6 k).2.1 acc f13 f14
      = View.tilePieces (s := S16x144x256) S1x144x256.size (fun c : Fin 16 => ![c.val, 0, 0]) row13_inb
          (fun c => accStep c (mChain v183 (row14 arg14.view f14) acc c.val c.2.le) (row14 arg14.view f14 c) (vBlk i k arg6.view X_arg6 c 0) (vBlk i k arg6.view X_arg6 c 1) (row13 arg13.view f13 c)) 16 le_rfl := by
  delta trip_k0_t1
  rfl

/-- What a trip stores in the scores: those of the next pair. -/
theorem trip_scores (acc : FVec F S16x256 .f32) (f13 : BufTy.Contents (Elt F) arg13.view.ty) (f14 : BufTy.Contents (Elt F) arg14.view.ty) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg2 v6 v10 v17 v21 v28 v32 v39 v43 v50 v54 v61 v65 v72 v76 v83 v87 v183 v184 v198 X_arg5 X_arg6 k).2.2.1 acc f13 f14
      = View.tilePieces (s := S16x512x256) S1x512x256.size (fun c : Fin 16 => ![c.val, 0, 0]) row14_inb
          (fun c => scores ((![v6, v10, v17, v21, v28, v32, v39, v43, v50, v54, v61, v65, v72, v76, v83, v87] : Fin 16 → FVec F S128x256 .bf16) c) (kBlk i k arg5.view X_arg5 c)) 16 le_rfl := by
  delta trip_k0_t1
  rfl

/-- The running maxima a trip yields. -/
theorem trip_max (acc : FVec F S16x256 .f32) (f13 : BufTy.Contents (Elt F) arg13.view.ty) (f14 : BufTy.Contents (Elt F) arg14.view.ty) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg2 v6 v10 v17 v21 v28 v32 v39 v43 v50 v54 v61 v65 v72 v76 v83 v87 v183 v184 v198 X_arg5 X_arg6 k).1 acc f13 f14 = mChain v183 (row14 arg14.view f14) acc 16 le_rfl := by
  delta trip_k0_t1
  rfl

end

end Cert.Proof.Attn

end
-- ==== Proof.AttnFinish.lean ====
/-
  The attention kernel's finishing phase: its step on the diagonal key blocks, the heads it writes, and the lists of
  stores of its three runs, written over all sixteen chains at once.
-/
module
public import proofs.«01_k».proof.Proof.AttnTrip

@[expose] public section

set_option maxRecDepth 16384

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-- The query operand of a chain: a head's block with the rows of the other half of the head zeroed. -/
def qOp : ℕ → Vec F S1x1x1x128x256 .bf16 → FVec F S128x256 .bf16
  | 0, x => select (cmpi .slt (iota .tc S128x256 32 [0] iota_S128x256_d0_w32) (broadcast S128x256 64#32)) (shapeCast S128x256 x shapeCasts_S1x1x1x128x256_S128x256) (broadcast S128x256 (Scalar.ofBits .bf16 0x0000#16))
  | _ + 1, x => select (cmpi .sge (iota .tc S128x256 32 [0] iota_S128x256_d0_w32) (broadcast S128x256 64#32)) (shapeCast S128x256 x shapeCasts_S1x1x1x128x256_S128x256) (broadcast S128x256 (Scalar.ofBits .bf16 0x0000#16))

theorem qRow_inb (h : Fin 8) : ∀ a, (![0, 0, h.val, 0, 0] : Fin 5 → ℕ) a + S1x1x1x128x256.size a ≤ S1x1x8x128x256.size a := by
  intro a; fin_cases a
  · show 0 + 1 ≤ 1; omega
  · show 0 + 1 ≤ 1; omega
  · show h.val + 1 ≤ 8; omega
  · show 0 + 128 ≤ 128; omega
  · show 0 + 256 ≤ 256; omega

/-- Chain `c`'s query operand, out of the block of queries. -/
def qAll (v : View sig .tc .vmem S1x1x8x128x256 .bf16) (f : v.ty.Contents (Elt F)) (c : Fin 16) : FVec F S128x256 .bf16 :=
  qOp (c.val % 2) (View.readAt (Elt F) v (Rect.unit (s := S1x1x8x128x256) ![0, 0, (hd c).val, 0, 0] S1x1x1x128x256.size (qRow_inb (hd c))).toLoadRect f)

theorem kRow_inb (h : Fin 8) : ∀ a, (![0, 0, 128 * h.val] : Fin 3 → ℕ) a + S1x512x128.size a ≤ S1x4096x1024.size a := by
  intro a; fin_cases a
  · show 0 + 1 ≤ 1; omega
  · show 0 + 512 ≤ 4096; omega
  · show 128 * h.val + 128 ≤ 1024; omega

/-- The first pair of key blocks of a chain. -/
def kFirst (v : View sig .tc .vmem S1x4096x1024 .bf16) (f : v.ty.Contents (Elt F)) (c : Fin 16) : Vec F S1x512x128 .bf16 :=
  View.readAt (Elt F) v (Rect.unit (s := S1x4096x1024) ![0, 0, 128 * (hd c).val] S1x512x128.size (kRow_inb (hd c))).toLoadRect f

/-- The kernel's column of row numbers of its running maxima. -/
def crow : IVec S16x256 32 := iota Kind.tc S16x256 32 [0] iota_S16x256_d0_w32

/-- The mask of a diagonal key block alone. -/
def maskEven : IVec S256x256 1 :=
  extractStridedSlice S256x256 ![0, 0] (cmpi .sle (iota Kind.tc S512x256 32 [0] iota_S512x256_d0_w32) (iota Kind.tc S512x256 32 [1] iota_S512x256_d1_w32)) slices_S512x256_o0_0_S256x256

/-- The mask of a pair of key blocks whose second is the diagonal one. -/
def maskOdd : IVec S512x256 1 :=
  ori (cmpi .slt (iota Kind.tc S512x256 32 [0] iota_S512x256_d0_w32) (broadcast S512x256 256#32))
    (cmpi .sle (subi (iota Kind.tc S512x256 32 [0] iota_S512x256_d0_w32) (broadcast S512x256 256#32)) (iota Kind.tc S512x256 32 [1] iota_S512x256_d1_w32))

/-- The masked scores of a diagonal key block. -/
def mskEven (S : Vec F S1x256x256 .f32) : FVec F S256x256 .f32 :=
  select maskEven (shapeCast S256x256 S shapeCasts_S1x256x256_S256x256) (broadcast S256x256 (Named.named κ "mask" 0xF149F2CA#32))

/-- The masked scores of a pair. -/
def mskOdd (S : Vec F S1x512x256 .f32) : FVec F S512x256 .f32 :=
  select maskOdd (shapeCast S512x256 S shapeCasts_S1x512x256_S512x256) (broadcast S512x256 (Named.named κ "mask" 0xF149F2CA#32))

/-- A row of maxima against the column maxima of a block of scores. -/
def mxEven (m : FVec F S1x256 .f32) (S : FVec F S256x256 .f32) : FVec F S1x256 .f32 :=
  maximumf m (shapeCast S1x256 (multiReduction .maximumf [0] S256 S 0xFF800000#32 reduces_S256x256_S256 (.inl rfl) rfl) shapeCasts_S256_S1x256)

/-- The same for a pair of blocks. -/
def mxOdd (m : FVec F S1x256 .f32) (S : FVec F S512x256 .f32) : FVec F S1x256 .f32 :=
  maximumf m (shapeCast S1x256 (multiReduction .maximumf [0] S256 S 0xFF800000#32 reduces_S512x256_S256 (.inl rfl) rfl) shapeCasts_S256_S1x256)

/-- The accumulators brought to a new maximum, plus values times the exponentials of scores, over one block. -/
def acEven (m : FVec F S1x256 .f32) (S : FVec F S256x256 .f32) (V : Vec F S1x1x1x128x256 .bf16) (A : Vec F S1x144x256 .f32) : FVec F S1x144x256 .f32 :=
  shapeCast S1x144x256 (addf (mulf (shapeCast S144x256 A shapeCasts_S1x144x256_S144x256) (broadcastTo S144x256 (exp2 (subf m (mxEven m S))) broadcasts_S1x256_S144x256))
    (matmul dot_S144x256_S256x256_S144x256_1_0_0_1_n_n none
      (concatenate S144x256 0 [⟨S128x256, shapeCast S128x256 V shapeCasts_S1x1x1x128x256_S128x256⟩, ⟨S16x256, broadcast S16x256 (Scalar.ofBits .bf16 0x3F80#16)⟩] concatenates_S128x256_S16x256_S144x256_d0)
      (truncf .bf16 (exp2 (subf S (broadcastTo S256x256 (mxEven m S) broadcasts_S1x256_S256x256))) bitsLt_bf16_f32)
      (constant S144x256 .f32 0x00000000#32))) shapeCasts_S144x256_S1x144x256

/-- The same over a pair of blocks. -/
def acOdd (m : FVec F S1x256 .f32) (S : FVec F S512x256 .f32) (V0 V1 : Vec F S1x1x1x128x256 .bf16) (A : Vec F S1x144x256 .f32) : FVec F S1x144x256 .f32 :=
  shapeCast S1x144x256 (addf (mulf (shapeCast S144x256 A shapeCasts_S1x144x256_S144x256) (broadcastTo S144x256 (exp2 (subf m (mxOdd m S))) broadcasts_S1x256_S144x256))
    (matmul dot_S144x512_S512x256_S144x256_1_0_0_1_n_n none (vOnes V0 V1)
      (truncf .bf16 (exp2 (subf S (broadcastTo S512x256 (mxOdd m S) broadcasts_S1x256_S512x256))) bitsLt_bf16_f32)
      (constant S144x256 .f32 0x00000000#32))) shapeCasts_S144x256_S1x144x256

/-- A head of the output block from its two chains' accumulators. -/
def outBlk (lam : FVec F S1x1 .f32) (A1 A2 : Vec F S1x144x256 .f32) (nw : Vec F S128x1 .f32) : FVec F S1x256x128 .bf16 :=
  k0_pay267 (k0_pay266 lam A1 A2 nw)

def offE (i : grid0.Coords) : Fin 8 → Fin 5 → Nat :=
  ![k0_off33 i, k0_off34 i, k0_off35 i, k0_off36 i, k0_off37 i, k0_off38 i, k0_off39 i, k0_off40 i]

theorem offE_inb (i : grid0.Coords) (hc : k0_cond2 i = 1#1) (h : Fin 8) : ∀ a, offE i h a + S1x1x1x128x256.size a ≤ S1x16x8x128x256.size a := by
  fin_cases h
  · exact k0_off33_inb i hc
  · exact k0_off34_inb i hc
  · exact k0_off35_inb i hc
  · exact k0_off36_inb i hc
  · exact k0_off37_inb i hc
  · exact k0_off38_inb i hc
  · exact k0_off39_inb i hc
  · exact k0_off40_inb i hc

def offO (i : grid0.Coords) : Fin 8 → BitVec 32 → Fin 5 → Nat :=
  ![k0_off41 i, k0_off42 i, k0_off43 i, k0_off44 i, k0_off45 i, k0_off46 i, k0_off47 i, k0_off48 i]

theorem offO_inb (i : grid0.Coords) (hc : k0_cond3 i = 1#1) (h : Fin 8) (r : Fin 2) : ∀ a, offO i h (BitVec.ofNat 32 r.val) a + S1x1x1x128x256.size a ≤ S1x16x8x128x256.size a := by
  fin_cases h
  · exact k0_off41_inb i hc r
  · exact k0_off42_inb i hc r
  · exact k0_off43_inb i hc r
  · exact k0_off44_inb i hc r
  · exact k0_off45_inb i hc r
  · exact k0_off46_inb i hc r
  · exact k0_off47_inb i hc r
  · exact k0_off48_inb i hc r

/-- The diagonal value block of a chain at an even query block. -/
def vEven (i : grid0.Coords) (hc : k0_cond2 i = 1#1) (v : View sig .tc .vmem S1x16x8x128x256 .bf16) (f : v.ty.Contents (Elt F)) (c : Fin 16) : Vec F S1x1x1x128x256 .bf16 :=
  View.readAt (Elt F) v (Rect.unit (s := S1x16x8x128x256) (offE i (hd c)) S1x1x1x128x256.size (offE_inb i hc (hd c))).toLoadRect f

/-- The last two value blocks of a chain at an odd query block. -/
def vOdd (i : grid0.Coords) (hc : k0_cond3 i = 1#1) (v : View sig .tc .vmem S1x16x8x128x256 .bf16) (f : v.ty.Contents (Elt F)) (c : Fin 16) (r : Fin 2) : Vec F S1x1x1x128x256 .bf16 :=
  View.readAt (Elt F) v (Rect.unit (s := S1x16x8x128x256) (offO i (hd c) (BitVec.ofNat 32 r.val)) S1x1x1x128x256.size (offO_inb i hc (hd c) r)).toLoadRect f

theorem half14_inb (c : Fin 16) : ∀ a, (![c.val, 0, 0] : Fin 3 → ℕ) a + S1x256x256.size a ≤ S16x512x256.size a := by
  intro a; fin_cases a
  · show c.val + 1 ≤ 16; omega
  · show 0 + 256 ≤ 512; omega
  · show 0 + 256 ≤ 256; omega

/-- The first half of chain `c`'s row of the scores. -/
def half14 (v : View sig .tc .vmem S16x512x256 .f32) (f : v.ty.Contents (Elt F)) (c : Fin 16) : Vec F S1x256x256 .f32 :=
  View.readAt (Elt F) v (Rect.unit (s := S16x512x256) ![c.val, 0, 0] S1x256x256.size (half14_inb c)).toLoadRect f

/-- The scores of the first pair of key blocks, chain after chain, over what was stored before. -/
def T14 (q : Fin 16 → FVec F S128x256 .bf16) (k : Fin 16 → Vec F S1x512x128 .bf16) (base : List (View.Piece (Elt F) S16x512x256 .f32)) (n : ℕ) (hn : n ≤ 16) : List (View.Piece (Elt F) S16x512x256 .f32) :=
  View.tilePieces (s := S16x512x256) S1x512x256.size (fun c : Fin 16 => ![c.val, 0, 0]) row14_inb (fun c => scores (q c) (k c)) n hn ++ base

/-- The chains' accumulators stored one after another, each from the row it finds. -/
def T13 (v : View sig .tc .vmem S16x144x256 .f32) (fin : Fin 16 → Vec F S1x144x256 .f32 → FVec F S1x144x256 .f32) (base : List (View.Piece (Elt F) S16x144x256 .f32)) : (n : ℕ) → n ≤ 16 → List (View.Piece (Elt F) S16x144x256 .f32)
  | 0, _ => base
  | n + 1, h => ⟨Rect.unit (s := S16x144x256) ![n, 0, 0] S1x144x256.size (row13_inb ⟨n, h⟩), fin ⟨n, h⟩ (row13 v (v.writes (Elt F) v.junk (T13 v fin base n (Nat.le_of_succ_le h))) ⟨n, h⟩)⟩ :: T13 v fin base n (Nat.le_of_succ_le h)

theorem outRow_inb (h : Fin 8) : ∀ a, (![0, 0, 128 * h.val] : Fin 3 → ℕ) a + S1x256x128.size a ≤ S1x256x1024.size a := by
  intro a; fin_cases a
  · show 0 + 1 ≤ 1; omega
  · show 0 + 256 ≤ 256; omega
  · show 128 * h.val + 128 ≤ 1024; omega

/-- One more chain's accumulators stored. -/
theorem T13_step (v : View sig .tc .vmem S16x144x256 .f32) (fin : Fin 16 → Vec F S1x144x256 .f32 → FVec F S1x144x256 .f32) (base : List (View.Piece (Elt F) S16x144x256 .f32)) (n : ℕ) (h : n + 1 ≤ 16) {T : List (View.Piece (Elt F) S16x144x256 .f32)}
    (e : T = T13 v fin base n (Nat.le_of_succ_le h)) {H : List (View.Piece (Elt F) S16x144x256 .f32)}
    (eH : H = ⟨Rect.unit (s := S16x144x256) ![n, 0, 0] S1x144x256.size (row13_inb ⟨n, h⟩), fin ⟨n, h⟩ (row13 v (v.writes (Elt F) v.junk T) ⟨n, h⟩)⟩ :: T) :
    H = T13 v fin base (n + 1) h := by
  rw [eH, e]; rfl

/-- The output block's eight heads, each read from the stores in the accumulators so far. -/
def T12 (v : View sig .tc .vmem S16x144x256 .f32) (Ts : Fin 8 → List (View.Piece (Elt F) S16x144x256 .f32)) (lam : FVec F S1x1 .f32) (nw : Vec F S128x1 .f32) : List (View.Piece (Elt F) S1x256x1024 .bf16) :=
  View.tilePieces (s := S1x256x1024) S1x256x128.size (fun h : Fin 8 => ![0, 0, 128 * h.val]) outRow_inb
    (fun h => outBlk lam (row13 v (v.writes (Elt F) v.junk (Ts h)) ⟨2 * h.val, by omega⟩)
      (row13 v (v.writes (Elt F) v.junk (Ts h)) ⟨2 * h.val + 1, by omega⟩) nw) 8 le_rfl

/-- The zeroed accumulators. -/
def zero13 : List (View.Piece (Elt F) S16x144x256 .f32) :=
  [⟨Rect.unit (s := S16x144x256) ![0, 0, 0] S16x144x256.size inb_S16x144x256_S16x144x256_0_0_0, k0_pay537⟩]

def lamOf (v7 v8 v9 v10 : View sig .tc .vmem S1x64 .f32) (f7 : v7.ty.Contents (Elt F)) (f8 : v8.ty.Contents (Elt F)) (f9 : v9.ty.Contents (Elt F)) (f10 : v10.ty.Contents (Elt F)) : FVec F S1x1 .f32 :=
  k0_pay542 (View.readAt (Elt F) v7 (Rect.unit (s := S1x64) ![0, 0] S1x64.size inb_S1x64_S1x64_0_0).toLoadRect f7) (View.readAt (Elt F) v8 (Rect.unit (s := S1x64) ![0, 0] S1x64.size inb_S1x64_S1x64_0_0).toLoadRect f8)
    (View.readAt (Elt F) v9 (Rect.unit (s := S1x64) ![0, 0] S1x64.size inb_S1x64_S1x64_0_0).toLoadRect f9) (View.readAt (Elt F) v10 (Rect.unit (s := S1x64) ![0, 0] S1x64.size inb_S1x64_S1x64_0_0).toLoadRect f10)

def nwOf (v : View sig .tc .vmem S128x1 .f32) (f : v.ty.Contents (Elt F)) : Vec F S128x1 .f32 :=
  View.readAt (Elt F) v (Rect.unit (s := S128x1) ![0, 0] S128x1.size inb_S128x1_S128x1_0_0).toLoadRect f

/-- The kernel's count of pairs, as it computes it. -/
def pairs (i : grid0.Coords) : BitVec 32 := Scalar.divsi (BitVec.ofNat 32 (i 2).val) 2#32

/-- Whether its division must be corrected. -/
def corr (i : grid0.Coords) : BitVec 1 :=
  Scalar.andi (Scalar.cmpi .ne (Scalar.subi (Scalar.extui (Scalar.cmpi .sgt (BitVec.ofNat 32 (i 2).val) 0#32)) (Scalar.extui (Scalar.cmpi .slt (BitVec.ofNat 32 (i 2).val) 0#32))) 1#32)
    (Scalar.cmpi .ne (Scalar.remsi (BitVec.ofNat 32 (i 2).val) 2#32) 0#32)

/-- The state of the loop over pairs before trip `n`: the maxima, and what has been stored in the accumulators and the scores. -/
def loopSt (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X5 : BufTy.Contents (Elt F) arg5.view.ty) (X6 : BufTy.Contents (Elt F) arg6.view.ty) (f14 : BufTy.Contents (Elt F) arg14.view.ty) (n : ℕ) :=
  st_k0_t1 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) (qAll arg3.view X3 0) (qAll arg3.view X3 1) (qAll arg3.view X3 2) (qAll arg3.view X3 3) (qAll arg3.view X3 4) (qAll arg3.view X3 5) (qAll arg3.view X3 6) (qAll arg3.view X3 7) (qAll arg3.view X3 8) (qAll arg3.view X3 9) (qAll arg3.view X3 10) (qAll arg3.view X3 11) (qAll arg3.view X3 12) (qAll arg3.view X3 13) (qAll arg3.view X3 14) (qAll arg3.view X3 15) crow (pairs i) (corr i) X5 X6 (arg13.view.writes (Elt F) arg13.view.junk zero13) f14 k0_pay539 n

/-- The number of trips. -/
def nTrip (i : grid0.Coords) : ℕ := Scf.trips (k0_t1_loop i).lb (k0_t1_loop i).ub (k0_t1_loop i).st

/-- The scores the opening query block issues before the loop. -/
def first14 (arg3 : Memref sig .tc .vmem S1x1x8x128x256 .bf16) (harg3 : arg3.IsWhole) (arg5 : Memref sig .tc .vmem S1x4096x1024 .bf16) (X3 : BufTy.Contents (Elt F) arg3.view.ty) (X5 : BufTy.Contents (Elt F) arg5.view.ty) : List (View.Piece (Elt F) S16x512x256 .f32) :=
  T14 (qAll arg3.view X3) (kFirst arg5.view X5) [] 16 le_rfl

/-- A chain's finishing step at an even query block, whose loop began with the scores' contents `g14`, over the list `b14`
of the stores since. -/
def finE (i : grid0.Coords) (hc : k0_cond2 i = 1#1) (v6 : View sig .tc .vmem S1x16x8x128x256 .bf16) (f6 : v6.ty.Contents (Elt F)) (v14 : View sig .tc .vmem S16x512x256 .f32) (g14 : v14.ty.Contents (Elt F)) (b14 : List (View.Piece (Elt F) S16x512x256 .f32)) (q : Fin 16 → FVec F S128x256 .bf16) (k : Fin 16 → Vec F S1x512x128 .bf16) (M : FVec F S16x256 .f32) (c : Fin 16) (A : Vec F S1x144x256 .f32) : FVec F S1x144x256 .f32 :=
  acEven (mRow c M) (mskEven (half14 v14 (v14.writes (Elt F) g14 (T14 q k b14 c.val c.2.le)) c)) (vEven i hc v6 f6 c) A

/-- The same at an odd query block. -/
def finO (i : grid0.Coords) (hc : k0_cond3 i = 1#1) (v6 : View sig .tc .vmem S1x16x8x128x256 .bf16) (f6 : v6.ty.Contents (Elt F)) (v14 : View sig .tc .vmem S16x512x256 .f32) (g14 : v14.ty.Contents (Elt F)) (b14 : List (View.Piece (Elt F) S16x512x256 .f32)) (q : Fin 16 → FVec F S128x256 .bf16) (k : Fin 16 → Vec F S1x512x128 .bf16) (M : FVec F S16x256 .f32) (c : Fin 16) (A : Vec F S1x144x256 .f32) : FVec F S1x144x256 .f32 :=
  acOdd (mRow c M) (mskOdd (row14 v14 (v14.writes (Elt F) g14 (T14 q k b14 c.val c.2.le)) c)) (vOdd i hc v6 f6 c 0) (vOdd i hc v6 f6 c 1) A

end Cert.Proof.Attn

end
-- ==== Proof.AttnIndex.lean ====
/- The attention kernel's vector operations at an index, on extended reals. -/
module

public import proofs.«01_k».proof.Proof.AttnFinish
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Proof.Attn

open Cert.KernelIdeal Cert.KernelIdeal.Gen

/-- A choice on an order of two small numbers. -/
theorem sel_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb, WordCmp.select_ofBool]; simp

theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb, WordCmp.select_ofBool]; simp

theorem sel_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (w := 32) ha hb, WordCmp.select_ofBool]; simp

theorem sel_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat (w := 32) ha hb, WordCmp.select_ofBool]; simp

/-- The mask of a pair of key blocks. -/
theorem sel_pair {α : Type} {a b : ℕ} (ha : a < 512) (hb : b < 256) (x y : α) :
    Scalar.select (IntOp.ori (IntOp.cmpi .slt (BitVec.ofNat 32 a) 256#32)
        (IntOp.cmpi .sle (IntOp.subi (BitVec.ofNat 32 a) 256#32) (BitVec.ofNat 32 b))) x y = if a ≤ 256 + b then x else y := by
  by_cases h : a < 256
  · have e : IntOp.cmpi .slt (BitVec.ofNat 32 a) 256#32 = 1#1 := (WordCmp.cmpi_slt_ofNat_eq_one_iff (w := 32) (by omega) (by omega)).2 h
    have o : ∀ z : BitVec 1, IntOp.ori 1#1 z = 1#1 := by decide
    rw [e, o, if_pos (by omega)]; rfl
  · have e : IntOp.cmpi .slt (BitVec.ofNat 32 a) 256#32 = 0#1 := (WordCmp.cmpi_slt_ofNat_eq_zero_iff (w := 32) (by omega) (by omega)).2 (by omega)
    have o : ∀ z : BitVec 1, IntOp.ori 0#1 z = z := by decide
    have d : IntOp.subi (BitVec.ofNat 32 a) 256#32 = BitVec.ofNat 32 (a - 256) := by
      show BitVec.ofNat 32 a - BitVec.ofNat 32 256 = _
      apply BitVec.eq_of_toNat_eq
      simp only [BitVec.toNat_sub, BitVec.toNat_ofNat]
      omega
    rw [e, o, d, sel_sle (by omega) (by omega)]
    refine if_congr (by omega) rfl rfl

/-- The mask's name stands for minus infinity. -/
theorem mask_named : Named.named (F := Ideal) (φ := .f32) κ "mask" 0xF149F2CA#32 = (⊥ : EReal) := rfl

/-- A maximum from minus infinity on. -/
theorem fold_sup {n : ℕ} (f : Fin n → EReal) : Finset.fold max (Ideal.ofBits .f32 0xFF800000#32) f Finset.univ = Finset.univ.sup f := by
  have e : Ideal.ofBits .f32 0xFF800000#32 = ⊥ := by simp [Ideal.ofBits, Ideal.ieee]
  rw [e]; rfl

theorem mRow_at (c : Fin 16) (M : FVec Ideal S16x256 .f32) (l : Fin 256) : mRow c M (ix2 0 l) = M (ix2 c l) := by
  pointwise [mRow]

theorem scores_at (q : FVec Ideal S128x256 .bf16) (k : FVec Ideal S1x512x128 .bf16) (j : Fin 512) (l : Fin 256) :
    scores q k (ix3 0 j l) = ∑ d : Fin 128, k (ix3 0 j d) * q (ix2 d l) := by
  pointwise [scores]

theorem mNew_at (c : Fin 16) (M : FVec Ideal S16x256 .f32) (S : FVec Ideal S1x512x256 .f32) (l : Fin 256) :
    mNew c M S (ix2 0 l) = max (M (ix2 c l)) (Finset.univ.sup fun j : Fin 512 => S (ix3 0 j l)) := by
  pointwise [mNew, mRow_at]
  rw [fold_sup]

theorem mUpd_at (c : Fin 16) (M : FVec Ideal S16x256 .f32) (S : FVec Ideal S1x512x256 .f32) (c' : Fin 16) (l : Fin 256) :
    mUpd c crow M S (ix2 c' l) = if c' = c then mNew c M S (ix2 0 l) else M (ix2 c' l) := by
  pointwise [mUpd, crow]
  rw [sel_eq (by omega) (by omega)]
  exact if_congr Fin.ext_iff.symm rfl rfl

theorem vOnes_top (V0 V1 : FVec Ideal S1x1x1x128x256 .bf16) (r : Fin 144) (j : Fin 512) :
    vOnes V0 V1 (ix2 r j) = if h : r.val < 128 then (if h' : j.val < 256 then V0 (ix5 0 0 0 ⟨r.val, h⟩ ⟨j.val, h'⟩) else V1 (ix5 0 0 0 ⟨r.val, h⟩ ⟨j.val - 256, by omega⟩)) else 1 := by
  pointwise [vOnes]

theorem accStep_at (c : Fin 16) (M : FVec Ideal S16x256 .f32) (S : FVec Ideal S1x512x256 .f32) (V0 V1 : FVec Ideal S1x1x1x128x256 .bf16) (A : FVec Ideal S1x144x256 .f32) (r : Fin 144) (l : Fin 256) :
    accStep c M S V0 V1 A (ix3 0 r l) = A (ix3 0 r l) * Ideal.exp2 (M (ix2 c l) - mNew c M S (ix2 0 l))
      + ∑ j : Fin 512, (vOnes (F := Ideal) V0 V1 (ix2 r j) : EReal) * Ideal.exp2 (S (ix3 0 j l) - mNew c M S (ix2 0 l)) := by
  pointwise [accStep, mRow_at]
  rfl

theorem mskEven_at (S : FVec Ideal S1x256x256 .f32) (j l : Fin 256) :
    mskEven S (ix2 j l) = if j.val ≤ l.val then S (ix3 0 j l) else ⊥ := by
  pointwise [mskEven, maskEven]
  rw [sel_sle (by omega) (by omega), mask_named]

theorem mskOdd_at (S : FVec Ideal S1x512x256 .f32) (j : Fin 512) (l : Fin 256) :
    mskOdd S (ix2 j l) = if j.val ≤ 256 + l.val then S (ix3 0 j l) else ⊥ := by
  pointwise [mskOdd, maskOdd]
  rw [sel_pair j.2 l.2, mask_named]

theorem mxEven_at (m : FVec Ideal S1x256 .f32) (S : FVec Ideal S256x256 .f32) (l : Fin 256) :
    mxEven m S (ix2 0 l) = max (m (ix2 0 l)) (Finset.univ.sup fun j : Fin 256 => S (ix2 j l)) := by
  pointwise [mxEven]
  rw [fold_sup]

theorem mxOdd_at (m : FVec Ideal S1x256 .f32) (S : FVec Ideal S512x256 .f32) (l : Fin 256) :
    mxOdd m S (ix2 0 l) = max (m (ix2 0 l)) (Finset.univ.sup fun j : Fin 512 => S (ix2 j l)) := by
  pointwise [mxOdd]
  rw [fold_sup]

theorem acEven_at (m : FVec Ideal S1x256 .f32) (S : FVec Ideal S256x256 .f32) (V : FVec Ideal S1x1x1x128x256 .bf16) (A : FVec Ideal S1x144x256 .f32) (r : Fin 144) (l : Fin 256) :
    acEven m S V A (ix3 0 r l) = A (ix3 0 r l) * Ideal.exp2 (m (ix2 0 l) - mxEven m S (ix2 0 l))
      + ∑ j : Fin 256, (if h : r.val < 128 then V (ix5 0 0 0 ⟨r.val, h⟩ j) else 1) * Ideal.exp2 (S (ix2 j l) - mxEven m S (ix2 0 l)) := by
  pointwise [acEven]
  rfl

theorem acOdd_at (m : FVec Ideal S1x256 .f32) (S : FVec Ideal S512x256 .f32) (V0 V1 : FVec Ideal S1x1x1x128x256 .bf16) (A : FVec Ideal S1x144x256 .f32) (r : Fin 144) (l : Fin 256) :
    acOdd m S V0 V1 A (ix3 0 r l) = A (ix3 0 r l) * Ideal.exp2 (m (ix2 0 l) - mxOdd m S (ix2 0 l))
      + ∑ j : Fin 512, (vOnes (F := Ideal) V0 V1 (ix2 r j) : EReal) * Ideal.exp2 (S (ix2 j l) - mxOdd m S (ix2 0 l)) := by
  pointwise [acOdd]
  rfl

theorem qOp_at (s : ℕ) (x : FVec Ideal S1x1x1x128x256 .bf16) (d : Fin 128) (l : Fin 256) :
    qOp s x (ix2 d l) = if (d.val < 64 ↔ s = 0) then x (ix5 0 0 0 d l) else 0 := by
  cases s with
  | zero =>
    pointwise [qOp]
    rw [sel_slt (by omega) (by omega)]
    exact if_congr (by simp) rfl rfl
  | succ n =>
    pointwise [qOp]
    rw [sel_sge (by omega) (by omega)]
    exact if_congr (by simp) rfl rfl

/-- The normed difference of a head's two chains, over its 128 channels. -/
def headAt (lam : EReal) (a1 a2 : Fin 144 → EReal) (e : Fin 128) : EReal :=
  Ideal.div (a1 ⟨e.val, by omega⟩) (a1 128) - lam * Ideal.div (a2 ⟨e.val, by omega⟩) (a2 128)

/-- A row of 128 numbers over the root of its mean square, times a gain and the fixed factor. -/
def normAt (o : Fin 128 → EReal) (w : EReal) (e : Fin 128) : EReal :=
  o e * Ideal.rsqrt (Ideal.div (∑ k : Fin 128, o k * o k) (Ideal.ofBits .f32 0x43000000#32) + Ideal.ofBits .f32 0x358637BD#32) * w * Ideal.ofBits .f32 0x3F4CCCCD#32

theorem outBlk_at (lam : FVec Ideal S1x1 .f32) (A1 A2 : FVec Ideal S1x144x256 .f32) (nw : FVec Ideal S128x1 .f32) (l : Fin 256) (e : Fin 128) :
    outBlk lam A1 A2 nw (ix3 0 l e) = normAt (headAt (lam (ix2 0 0)) (fun r => A1 (ix3 0 r l)) (fun r => A2 (ix3 0 r l))) (nw (ix2 e 0)) e := by
  pointwise [outBlk, k0_pay266, k0_pay267]
  rfl

end Cert.Proof.Attn

end
-- ==== Proof.AttnMath.lean ====
/-
  The online softmax on extended reals: a running maximum and sums kept relative to it, block of keys after block of
  keys, represent plain sums of powers of two.
-/
module

public import Idealize.ShloMosaic.PureOps.Ideal

@[expose] public section

noncomputable section

open Idealize.ShloMosaic

namespace Cert.Proof.Attn

/-- The weight of a score: two to its power; a masked score weighs nothing. -/
def wt (s : EReal) : ℝ := (Ideal.exp2 s).toReal

theorem wt_bot : wt ⊥ = 0 := by simp [wt]

theorem wt_coe (r : ℝ) : wt (r : EReal) = (2 : ℝ) ^ r := by simp [wt]

/-- A running maximum and a sum kept relative to it represent the plain sum `W`: nothing seen yet, or a real maximum. -/
def Rep (M A : EReal) (W : ℝ) : Prop := (M = ⊥ ∧ A = 0 ∧ W = 0) ∨ ∃ m : ℝ, M = m ∧ A = ((W * (2 : ℝ) ^ (-m) : ℝ) : EReal)

/-- A score is a number or masked. -/
def Score (s : EReal) : Prop := s = ⊥ ∨ ∃ r : ℝ, s = r

theorem exp2_sub {s : EReal} (hs : Score s) (m : ℝ) : Ideal.exp2 (s - (m : EReal)) = ((wt s * (2 : ℝ) ^ (-m) : ℝ) : EReal) := by
  rcases hs with rfl | ⟨r, rfl⟩
  · rw [EReal.bot_sub, wt_bot]; simp
  · rw [← EReal.coe_sub, Ideal.exp2_coe, wt_coe, ← Real.rpow_add two_pos]
    rfl

/-- The maximum of scores, one of them a number, against a running maximum is a number. -/
theorem max_real {n : ℕ} {M : EReal} {s : Fin n → EReal} (hM : Score M) (hs : ∀ j, Score (s j)) (hr : ∃ j, ∃ r : ℝ, s j = r) :
    ∃ m : ℝ, max M (Finset.univ.sup s) = m := by
  have lt : ∀ {x : EReal}, Score x → x < ⊤ := by
    intro x hx
    rcases hx with rfl | ⟨r, rfl⟩
    · exact bot_lt_top
    · exact EReal.coe_lt_top r
  have ht : max M (Finset.univ.sup s) < ⊤ := max_lt (lt hM) ((Finset.sup_lt_iff bot_lt_top).2 fun j _ => lt (hs j))
  obtain ⟨j, r, h⟩ := hr
  have hb : ⊥ < max M (Finset.univ.sup s) :=
    lt_of_lt_of_le (h ▸ EReal.bot_lt_coe r) (le_max_of_le_right (Finset.le_sup (f := s) (Finset.mem_univ j)))
  exact ⟨_, (EReal.coe_toReal ht.ne hb.ne').symm⟩

/-- A finite sum of reals, on extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- One block of keys: the maximum moves, the sum is brought to it, the block's weighted values are added. -/
theorem Rep.step {n : ℕ} {M A : EReal} {W : ℝ} (h : Rep M A W) {s : Fin n → EReal} {v : Fin n → ℝ} (hs : ∀ j, Score (s j))
    (hr : ∃ j, ∃ r : ℝ, s j = r) :
    Rep (max M (Finset.univ.sup s))
      (A * Ideal.exp2 (M - max M (Finset.univ.sup s)) + ∑ j, (v j : EReal) * Ideal.exp2 (s j - max M (Finset.univ.sup s)))
      (W + ∑ j, v j * wt (s j)) := by
  have hM : Score M := by
    rcases h with ⟨h, _⟩ | ⟨m, h, _⟩
    · exact Or.inl h
    · exact Or.inr ⟨m, h⟩
  obtain ⟨m', hm'⟩ := max_real hM hs hr
  rw [hm']
  refine Or.inr ⟨m', rfl, ?_⟩
  have e1 : A * Ideal.exp2 (M - (m' : EReal)) = ((W * (2 : ℝ) ^ (-m') : ℝ) : EReal) := by
    rw [exp2_sub hM]
    rcases h with ⟨rfl, rfl, rfl⟩ | ⟨m, rfl, rfl⟩
    · simp
    · rw [wt_coe, ← EReal.coe_mul]
      congr 1
      rw [mul_assoc, ← mul_assoc ((2 : ℝ) ^ (-m)), ← Real.rpow_add two_pos]
      simp
  have e2 : ∀ j, (v j : EReal) * Ideal.exp2 (s j - (m' : EReal)) = ((v j * wt (s j) * (2 : ℝ) ^ (-m') : ℝ) : EReal) := fun j => by
    rw [exp2_sub (hs j), ← EReal.coe_mul]; congr 1; ring
  simp only [e1, e2]
  rw [← coe_sum, ← EReal.coe_add, ← Finset.sum_mul, ← add_mul]

/-- A quotient of two such sums is the quotient of the plain sums. -/
theorem Rep.div {M A B : EReal} {W Z : ℝ} (hA : Rep M A W) (hB : Rep M B Z) (hZ : 0 < Z) : Ideal.div A B = ((W / Z : ℝ) : EReal) := by
  rcases hB with ⟨_, _, h⟩ | ⟨m, hm, rfl⟩
  · exact absurd h hZ.ne'
  rcases hA with ⟨h, _⟩ | ⟨m1, hm1, rfl⟩
  · rw [h] at hm; exact absurd hm (EReal.bot_ne_coe m)
  have : m1 = m := by rw [hm1] at hm; exact_mod_cast hm
  subst this
  have hp : (0 : ℝ) < (2 : ℝ) ^ (-m1) := Real.rpow_pos_of_pos two_pos _
  have hne : ((Z * (2 : ℝ) ^ (-m1) : ℝ) : EReal) ≠ 0 := by exact_mod_cast (mul_pos hZ hp).ne'
  rw [Ideal.div, if_neg hne, ← EReal.coe_inv, ← EReal.coe_mul]
  congr 1
  field_simp

/-- A causal sum over all keys, block after block: the pairs of blocks before the diagonal and the diagonal's own. -/
theorem sum_split (n J pos : ℕ) (F : ℕ → ℝ) (hF : ∀ g, pos < g → F g = 0) (hp : pos < 512 * n + J) (hJ : 512 * n + J ≤ 4096) :
    (∑ k ∈ Finset.range n, ∑ j : Fin 512, F (512 * k + j.val)) + ∑ j : Fin J, F (512 * n + j.val) = ∑ g : Fin 4096, F g.val := by
  have h1 : ∀ n, ∑ k ∈ Finset.range n, ∑ j : Fin 512, F (512 * k + j.val) = ∑ g ∈ Finset.range (512 * n), F g := by
    intro n
    induction n with
    | zero => simp
    | succ n ih => rw [Finset.sum_range_succ, ih, Nat.mul_succ, Finset.sum_range_add, Finset.sum_range (fun x => F (512 * n + x))]
  rw [h1, ← Finset.sum_range (fun x => F (512 * n + x)), ← Finset.sum_range_add, ← Finset.sum_range (fun g => F g)]
  refine Finset.sum_subset (Finset.range_mono hJ) fun g _ hg => hF g ?_
  have := Finset.mem_range.not.1 hg
  omega

end Cert.Proof.Attn

end
-- ==== Proof.AttnCore.lean ====
/-
  What the attention kernel's chains compute: the loop over pairs of key blocks and the finishing step keep the plain
  sums of values and weights, relative to the running maxima.
-/
module
public import proofs.«01_k».proof.Proof.AttnIndex
public import proofs.«01_k».proof.Proof.AttnMath

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

/-- The running maxima after the first `n` chains' updates. -/
theorem mChain_at (S : Fin 16 → FVec Ideal S1x512x256 .f32) (M : FVec Ideal S16x256 .f32) (n : ℕ) (hn : n ≤ 16) (c' : Fin 16) (l : Fin 256) :
    mChain crow S M n hn (ix2 c' l) = if c'.val < n then max (M (ix2 c' l)) (Finset.univ.sup fun j : Fin 512 => S c' (ix3 0 j l)) else M (ix2 c' l) := by
  induction n with
  | zero => rfl
  | succ n ih =>
    rw [mChain, mUpd_at]
    by_cases h : c' = (⟨n, hn⟩ : Fin 16)
    · rw [if_pos h, mNew_at]
      subst h
      rw [ih (Nat.le_of_succ_le hn), if_neg (Nat.lt_irrefl n), if_pos (Nat.lt_succ_self n)]
    · rw [if_neg h, ih (Nat.le_of_succ_le hn)]
      have : c'.val ≠ n := fun e => h (Fin.ext e)
      exact if_congr (by omega) rfl rfl

theorem pay539_at (c' : Fin 16) (l : Fin 256) : (k0_pay539 : FVec Ideal S16x256 .f32) (ix2 c' l) = ⊥ := by
  pointwise [k0_pay539]
  exact mask_named

theorem pay537_at (c' : Fin 16) (r : Fin 144) (l : Fin 256) : (k0_pay537 : FVec Ideal S16x144x256 .f32) (ix3 c' r l) = 0 := by
  pointwise [k0_pay537]

section

variable {N : ℕ} (M : ℕ → FVec Ideal S16x256 .f32) (A : ℕ → Fin 16 → FVec Ideal S1x144x256 .f32) (S : ℕ → Fin 16 → FVec Ideal S1x512x256 .f32)
  (V : Fin N → Fin 16 → Fin 2 → FVec Ideal S1x1x1x128x256 .bf16) (σ : Fin 16 → Fin 256 → ℕ → ℝ) (w : Fin 16 → Fin 144 → ℕ → ℝ)

/-- The loop's state, as a recursion on rows, with real scores and values. -/
structure Chains : Prop where
  m0 : M 0 = k0_pay539
  a0 : ∀ ch r l, A 0 ch (ix3 0 r l) = (k0_pay537 : FVec Ideal S16x144x256 .f32) (ix3 ch r l)
  m1 : ∀ n : Fin N, M (n.val + 1) = mChain crow (S n.val) (M n.val) 16 le_rfl
  a1 : ∀ (n : Fin N) (ch : Fin 16), A (n.val + 1) ch = accStep ch (mChain crow (S n.val) (M n.val) ch.val ch.2.le) (S n.val ch) (V n ch 0) (V n ch 1) (A n.val ch)
  s : ∀ (n : ℕ) (_ : n ≤ N) (ch : Fin 16) (j : Fin 512) (l : Fin 256), S n ch (ix3 0 j l) = ((σ ch l (512 * n + j.val) : ℝ) : EReal)
  v : ∀ (n : Fin N) (ch : Fin 16) (r : Fin 144) (j : Fin 512), (vOnes (F := Ideal) (V n ch 0) (V n ch 1) (ix2 r j) : EReal) = ((w ch r (512 * n.val + j.val) : ℝ) : EReal)

variable {M A S V σ w}

/-- Before trip `n` the accumulators represent the plain sums over the keys seen. -/
theorem Chains.rep (H : Chains M A S V σ w) (n : ℕ) (hn : n ≤ N) (ch : Fin 16) (r : Fin 144) (l : Fin 256) :
    Rep (M n (ix2 ch l)) (A n ch (ix3 0 r l)) (∑ k ∈ Finset.range n, ∑ j : Fin 512, w ch r (512 * k + j.val) * wt (σ ch l (512 * k + j.val) : ℝ)) := by
  induction n with
  | zero =>
    rw [H.m0, H.a0, pay539_at, pay537_at]
    exact Or.inl ⟨rfl, rfl, rfl⟩
  | succ n ih =>
    have ih := ih (Nat.le_of_succ_le hn)
    have e1 := H.m1 ⟨n, hn⟩
    have e2 := H.a1 ⟨n, hn⟩ ch
    rw [Finset.sum_range_succ]
    have st := Rep.step ih (s := fun j : Fin 512 => S n ch (ix3 0 j l)) (v := fun j : Fin 512 => w ch r (512 * n + j.val))
      (fun j => Or.inr ⟨_, H.s n (Nat.le_of_succ_le hn) ch j l⟩) ⟨0, _, H.s n (Nat.le_of_succ_le hn) ch 0 l⟩
    simp only [H.s n (Nat.le_of_succ_le hn)] at st
    dsimp only at e1 e2
    rw [e1, e2, mChain_at, if_pos ch.2, accStep_at, mNew_at, mChain_at, if_neg (Nat.lt_irrefl _)]
    simp only [H.s n (Nat.le_of_succ_le hn), H.v ⟨n, hn⟩]
    exact st

/-- The plain sum of a row's values, weighted, over the keys up to a position. -/
def total (σ : ℕ → ℝ) (w : ℕ → ℝ) (pos : ℕ) : ℝ := ∑ g : Fin 4096, if g.val ≤ pos then w g.val * (2 : ℝ) ^ σ g.val else 0

theorem total_eq (σ w : ℕ → ℝ) (n J pos : ℕ) (hp : pos < 512 * n + J) (hp' : 512 * n ≤ pos) (hJ : 512 * n + J ≤ 4096) (s : Fin J → EReal)
    (hs : ∀ j : Fin J, s j = if 512 * n + j.val ≤ pos then ((σ (512 * n + j.val) : ℝ) : EReal) else ⊥) :
    (∑ k ∈ Finset.range n, ∑ j : Fin 512, w (512 * k + j.val) * wt (σ (512 * k + j.val) : ℝ)) + ∑ j : Fin J, w (512 * n + j.val) * wt (s j) = total σ w pos := by
  have := sum_split n J pos (fun g => if g ≤ pos then w g * (2 : ℝ) ^ σ g else 0) (fun g hg => if_neg (by omega)) hp hJ
  rw [total, ← this]
  congr 1
  · refine Finset.sum_congr rfl fun k hk => Finset.sum_congr rfl fun j _ => ?_
    have := Finset.mem_range.1 hk
    rw [if_pos (by omega), wt_coe]
  · refine Finset.sum_congr rfl fun j _ => ?_
    rw [hs]
    split
    · rw [wt_coe]
    · rw [wt_bot, mul_zero]

/-- The finishing step at an even query block. -/
theorem Chains.even (H : Chains M A S V σ w) (hN : N < 8) (ch : Fin 16) (l : Fin 256) (B : FVec Ideal S1x256x256 .f32)
    (hB : ∀ j : Fin 256, B (ix3 0 j l) = S N ch (ix3 0 ⟨j.val, by omega⟩ l)) (U : FVec Ideal S1x1x1x128x256 .bf16)
    (hU : ∀ (r : Fin 144) (j : Fin 256), (if h : r.val < 128 then U (ix5 0 0 0 ⟨r.val, h⟩ j) else 1 : EReal) = ((w ch r (512 * N + j.val) : ℝ) : EReal)) :
    ∃ m, ∀ r : Fin 144, Rep m (acEven (mRow ch (M N)) (mskEven B) U (A N ch) (ix3 0 r l)) (total (σ ch l) (w ch r) (512 * N + l.val)) := by
  have hs : ∀ j : Fin 256, (mskEven (F := Ideal) B (ix2 j l) : EReal) = if 512 * N + j.val ≤ 512 * N + l.val then ((σ ch l (512 * N + j.val) : ℝ) : EReal) else ⊥ := by
    intro j
    rw [mskEven_at, hB, H.s N le_rfl]
    exact if_congr (by omega) rfl rfl
  refine ⟨max (M N (ix2 ch l)) (Finset.univ.sup fun j : Fin 256 => (mskEven (F := Ideal) B (ix2 j l) : EReal)), fun r => ?_⟩
  have st := Rep.step (H.rep N le_rfl ch r l) (s := fun j : Fin 256 => (mskEven (F := Ideal) B (ix2 j l) : EReal)) (v := fun j : Fin 256 => w ch r (512 * N + j.val))
    (fun j => by
      rw [hs]; split
      · exact Or.inr ⟨_, rfl⟩
      · exact Or.inl rfl) ⟨0, σ ch l (512 * N + 0), by
        rw [hs, if_pos (by simp)]; rfl⟩
  rw [total_eq (σ ch l) (w ch r) N 256 (512 * N + l.val) (by omega) (by omega) (by omega) _ hs] at st
  rw [acEven_at, mxEven_at, mRow_at]
  simp only [hU]
  exact st

/-- The finishing step at an odd query block. -/
theorem Chains.odd (H : Chains M A S V σ w) (hN : N < 8) (ch : Fin 16) (l : Fin 256) (B : FVec Ideal S1x512x256 .f32)
    (hB : ∀ j : Fin 512, B (ix3 0 j l) = S N ch (ix3 0 j l)) (U0 U1 : FVec Ideal S1x1x1x128x256 .bf16)
    (hU : ∀ (r : Fin 144) (j : Fin 512), (vOnes (F := Ideal) U0 U1 (ix2 r j) : EReal) = ((w ch r (512 * N + j.val) : ℝ) : EReal)) :
    ∃ m, ∀ r : Fin 144, Rep m (acOdd (mRow ch (M N)) (mskOdd B) U0 U1 (A N ch) (ix3 0 r l)) (total (σ ch l) (w ch r) (512 * N + 256 + l.val)) := by
  have hs : ∀ j : Fin 512, (mskOdd (F := Ideal) B (ix2 j l) : EReal) = if 512 * N + j.val ≤ 512 * N + 256 + l.val then ((σ ch l (512 * N + j.val) : ℝ) : EReal) else ⊥ := by
    intro j
    rw [mskOdd_at, hB, H.s N le_rfl]
    exact if_congr (by omega) rfl rfl
  refine ⟨max (M N (ix2 ch l)) (Finset.univ.sup fun j : Fin 512 => (mskOdd (F := Ideal) B (ix2 j l) : EReal)), fun r => ?_⟩
  have st := Rep.step (H.rep N le_rfl ch r l) (s := fun j : Fin 512 => (mskOdd (F := Ideal) B (ix2 j l) : EReal)) (v := fun j : Fin 512 => w ch r (512 * N + j.val))
    (fun j => by
      rw [hs]; split
      · exact Or.inr ⟨_, rfl⟩
      · exact Or.inl rfl) ⟨0, σ ch l (512 * N + 0), by
        rw [hs, if_pos (by simp; omega)]; rfl⟩
  rw [total_eq (σ ch l) (w ch r) N 512 (512 * N + 256 + l.val) (by omega) (by omega) (by omega) _ hs] at st
  rw [acOdd_at, mxOdd_at, mRow_at]
  simp only [hU]
  exact st

end

theorem total_pos (σ : ℕ → ℝ) (w : ℕ → ℝ) (hw : ∀ g, w g = 1) (pos : ℕ) : 0 < total σ w pos := by
  unfold total
  refine Finset.sum_pos' (fun g _ => ?_) ⟨0, Finset.mem_univ _, ?_⟩
  · split
    · rw [hw]; positivity
    · exact le_rfl
  · rw [if_pos (show (0 : Fin 4096).val ≤ pos from Nat.zero_le _), hw]; positivity

/-- The quotient of two rows of a finished chain. -/
theorem quot {m : EReal} {a : Fin 144 → EReal} {σ : ℕ → ℝ} {w : Fin 144 → ℕ → ℝ} {pos : ℕ} (H : ∀ r, Rep m (a r) (total σ (w r) pos))
    (h1 : ∀ g, w 128 g = 1) (r : Fin 144) : Ideal.div (a r) (a 128) = ((total σ (w r) pos / total σ (fun _ => 1) pos : ℝ) : EReal) := by
  have e : w 128 = fun _ => 1 := funext h1
  have := Rep.div (H r) (H 128) (total_pos _ _ h1 pos)
  rw [this, e]

end Cert.Proof.Attn

end
-- ==== Proof.AttnRows.lean ====
/-
  Reading the chains' rows of the two scratch arrays through the attention kernel's stores, and its loop as a recursion on rows.
-/
module
public import proofs.«01_k».proof.Proof.AttnFinish
public import Idealize.ShloMosaic.Lib.Pointwise
public import Idealize.ShloMosaic.Lib.VecWindow
public import Idealize.ShloMosaic.Lib.WritesUnit

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

theorem row13_at (v : View sig .tc .vmem S16x144x256 .f32) (f : v.ty.Contents (Elt F)) (c : Fin 16) (r : Fin 144) (l : Fin 256) :
    row13 v f c (ix3 0 r l) = v.read (Elt F) f (ix3 c r l) := by
  unfold row13
  rw [View.readAt_unit v f (row13_inb c) rfl (row13_inb c)]
  show v.read (Elt F) f ((Rect.unit (s := S16x144x256) ![c.val, 0, 0] S1x144x256.size (row13_inb c)).emb (ix3 0 r l)) = _
  congr 1
  funext a
  apply Fin.ext
  fin_cases a
  · show c.val + 1 * 0 = c.val; omega
  · show 0 + 1 * r.val = r.val; omega
  · show 0 + 1 * l.val = l.val; omega

/-- A stored row of the accumulators is read back, -/
theorem row13_same (v : View sig .tc .vmem S16x144x256 .f32) (f : v.ty.Contents (Elt F)) (c : Fin 16) (w : Vec F S1x144x256 .f32) (L : List (View.Piece (Elt F) S16x144x256 .f32)) :
    row13 v (v.writes (Elt F) f (⟨Rect.unit (s := S16x144x256) ![c.val, 0, 0] S1x144x256.size (row13_inb c), w⟩ :: L)) c = w := by
  funext y
  idx_vars y
  obtain rfl : y0 = 0 := Subsingleton.elim _ _
  rw [row13_at]
  refine View.read_writes_cons_unit_of_mem v f (row13_inb c) w L _ (ix3 0 y1 y2) rfl ?_
  intro a
  fin_cases a
  · show c.val = c.val + 0; omega
  · show y1.val = 0 + y1.val; omega
  · show y2.val = 0 + y2.val; omega

/-- and another row is what it was. -/
theorem row13_ne (v : View sig .tc .vmem S16x144x256 .f32) (f : v.ty.Contents (Elt F)) (c n : Fin 16) (hn : n ≠ c) (w : Vec F S1x144x256 .f32) (L : List (View.Piece (Elt F) S16x144x256 .f32)) :
    row13 v (v.writes (Elt F) f (⟨Rect.unit (s := S16x144x256) ![n.val, 0, 0] S1x144x256.size (row13_inb n), w⟩ :: L)) c = row13 v (v.writes (Elt F) f L) c := by
  funext y
  idx_vars y
  obtain rfl : y0 = 0 := Subsingleton.elim _ _
  rw [row13_at, row13_at]
  refine View.read_writes_cons_unit_of_not_mem v f (row13_inb n) w L _ rfl 0 ?_
  show c.val < n.val ∨ n.val + 1 ≤ c.val
  have := fun h => hn (Fin.ext h)
  omega

/-- A row after the first `n` chains' stores. -/
theorem row13_tiles (v : View sig .tc .vmem S16x144x256 .f32) (f : v.ty.Contents (Elt F)) (P : Fin 16 → Vec F S1x144x256 .f32) (base : List (View.Piece (Elt F) S16x144x256 .f32)) (c : Fin 16) (n : ℕ) (hn : n ≤ 16) :
    row13 v (v.writes (Elt F) f (View.tilePieces (s := S16x144x256) S1x144x256.size (fun c : Fin 16 => ![c.val, 0, 0]) row13_inb P n hn ++ base)) c
      = if c.val < n then P c else row13 v (v.writes (Elt F) f base) c := by
  induction n with
  | zero => rfl
  | succ n ih =>
    rw [View.tilePieces_succ, List.cons_append]
    by_cases h : (⟨n, hn⟩ : Fin 16) = c
    · subst h
      rw [row13_same, if_pos (Nat.lt_succ_self n)]
    · rw [row13_ne v f c ⟨n, hn⟩ h, ih (Nat.le_of_succ_le hn)]
      have : c.val ≠ n := fun e => h (Fin.ext e.symm)
      refine if_congr (by omega) rfl rfl

theorem row14_at (v : View sig .tc .vmem S16x512x256 .f32) (f : v.ty.Contents (Elt F)) (c : Fin 16) (r : Fin 512) (l : Fin 256) :
    row14 v f c (ix3 0 r l) = v.read (Elt F) f (ix3 c r l) := by
  unfold row14
  rw [View.readAt_unit v f (row14_inb c) rfl (row14_inb c)]
  show v.read (Elt F) f ((Rect.unit (s := S16x512x256) ![c.val, 0, 0] S1x512x256.size (row14_inb c)).emb (ix3 0 r l)) = _
  congr 1
  funext a
  apply Fin.ext
  fin_cases a
  · show c.val + 1 * 0 = c.val; omega
  · show 0 + 1 * r.val = r.val; omega
  · show 0 + 1 * l.val = l.val; omega

/-- A stored row of the scores is read back, -/
theorem row14_same (v : View sig .tc .vmem S16x512x256 .f32) (f : v.ty.Contents (Elt F)) (c : Fin 16) (w : Vec F S1x512x256 .f32) (L : List (View.Piece (Elt F) S16x512x256 .f32)) :
    row14 v (v.writes (Elt F) f (⟨Rect.unit (s := S16x512x256) ![c.val, 0, 0] S1x512x256.size (row14_inb c), w⟩ :: L)) c = w := by
  funext y
  idx_vars y
  obtain rfl : y0 = 0 := Subsingleton.elim _ _
  rw [row14_at]
  refine View.read_writes_cons_unit_of_mem v f (row14_inb c) w L _ (ix3 0 y1 y2) rfl ?_
  intro a
  fin_cases a
  · show c.val = c.val + 0; omega
  · show y1.val = 0 + y1.val; omega
  · show y2.val = 0 + y2.val; omega

/-- and another row is what it was. -/
theorem row14_ne (v : View sig .tc .vmem S16x512x256 .f32) (f : v.ty.Contents (Elt F)) (c n : Fin 16) (hn : n ≠ c) (w : Vec F S1x512x256 .f32) (L : List (View.Piece (Elt F) S16x512x256 .f32)) :
    row14 v (v.writes (Elt F) f (⟨Rect.unit (s := S16x512x256) ![n.val, 0, 0] S1x512x256.size (row14_inb n), w⟩ :: L)) c = row14 v (v.writes (Elt F) f L) c := by
  funext y
  idx_vars y
  obtain rfl : y0 = 0 := Subsingleton.elim _ _
  rw [row14_at, row14_at]
  refine View.read_writes_cons_unit_of_not_mem v f (row14_inb n) w L _ rfl 0 ?_
  show c.val < n.val ∨ n.val + 1 ≤ c.val
  have := fun h => hn (Fin.ext h)
  omega

/-- A row after the first `n` chains' stores. -/
theorem row14_tiles (v : View sig .tc .vmem S16x512x256 .f32) (f : v.ty.Contents (Elt F)) (P : Fin 16 → Vec F S1x512x256 .f32) (base : List (View.Piece (Elt F) S16x512x256 .f32)) (c : Fin 16) (n : ℕ) (hn : n ≤ 16) :
    row14 v (v.writes (Elt F) f (View.tilePieces (s := S16x512x256) S1x512x256.size (fun c : Fin 16 => ![c.val, 0, 0]) row14_inb P n hn ++ base)) c
      = if c.val < n then P c else row14 v (v.writes (Elt F) f base) c := by
  induction n with
  | zero => rfl
  | succ n ih =>
    rw [View.tilePieces_succ, List.cons_append]
    by_cases h : (⟨n, hn⟩ : Fin 16) = c
    · subst h
      rw [row14_same, if_pos (Nat.lt_succ_self n)]
    · rw [row14_ne v f c ⟨n, hn⟩ h, ih (Nat.le_of_succ_le hn)]
      have : c.val ≠ n := fun e => h (Fin.ext e.symm)
      refine if_congr (by omega) rfl rfl

theorem half14_at (v : View sig .tc .vmem S16x512x256 .f32) (f : v.ty.Contents (Elt F)) (c : Fin 16) (r l : Fin 256) :
    half14 v f c (ix3 0 r l) = row14 v f c (ix3 0 ⟨r.val, by omega⟩ l) := by
  rw [row14_at]
  unfold half14
  rw [View.readAt_unit v f (half14_inb c) rfl (half14_inb c)]
  show v.read (Elt F) f ((Rect.unit (s := S16x512x256) ![c.val, 0, 0] S1x256x256.size (half14_inb c)).emb (ix3 0 r l)) = _
  congr 1
  funext a
  apply Fin.ext
  fin_cases a
  · show c.val + 1 * 0 = c.val; omega
  · show 0 + 1 * r.val = r.val; omega
  · show 0 + 1 * l.val = l.val; omega

/-- A row after the first `n` chains have finished. -/
theorem row13_T13 (v : View sig .tc .vmem S16x144x256 .f32) (fin : Fin 16 → Vec F S1x144x256 .f32 → FVec F S1x144x256 .f32) (base : List (View.Piece (Elt F) S16x144x256 .f32)) (c : Fin 16) (n : ℕ) (hn : n ≤ 16) :
    row13 v (v.writes (Elt F) v.junk (T13 v fin base n hn)) c
      = if c.val < n then fin c (row13 v (v.writes (Elt F) v.junk base) c) else row13 v (v.writes (Elt F) v.junk base) c := by
  induction n with
  | zero => rfl
  | succ n ih =>
    rw [T13]
    by_cases h : (⟨n, hn⟩ : Fin 16) = c
    · subst h
      refine (row13_same v v.junk ⟨n, hn⟩ _ _).trans ?_
      rw [if_pos (Nat.lt_succ_self n), ih (Nat.le_of_succ_le hn), if_neg (Nat.lt_irrefl n)]
    · refine (row13_ne v v.junk c ⟨n, hn⟩ h _ _).trans ?_
      rw [ih (Nat.le_of_succ_le hn)]
      have : c.val ≠ n := fun e => h (Fin.ext e.symm)
      refine if_congr (by omega) rfl rfl

theorem row14_T14 (v : View sig .tc .vmem S16x512x256 .f32) (f : v.ty.Contents (Elt F)) (q : Fin 16 → FVec F S128x256 .bf16) (k : Fin 16 → Vec F S1x512x128 .bf16) (base : List (View.Piece (Elt F) S16x512x256 .f32)) (c : Fin 16) (n : ℕ) (hn : n ≤ 16) :
    row14 v (v.writes (Elt F) f (T14 q k base n hn)) c = if c.val < n then scores (q c) (k c) else row14 v (v.writes (Elt F) f base) c :=
  row14_tiles v f (fun c => scores (q c) (k c)) base c n hn

/-- The output block's stores, at an index of head `h`. -/
theorem canon_T12 (v12 : View sig .tc .vmem S1x256x1024 .bf16) (v : View sig .tc .vmem S16x144x256 .f32) (Ts : Fin 8 → List (View.Piece (Elt F) S16x144x256 .f32)) (lam : FVec F S1x1 .f32) (nw : Vec F S128x1 .f32) (h : Fin 8) (l : Fin 256) (e : Fin 128) :
    View.canon (T12 v Ts lam nw) (ix3 0 l ⟨128 * h.val + e.val, by omega⟩)
      = outBlk lam (row13 v (v.writes (Elt F) v.junk (Ts h)) ⟨2 * h.val, by omega⟩) (row13 v (v.writes (Elt F) v.junk (Ts h)) ⟨2 * h.val + 1, by omega⟩) nw (ix3 0 l e) := by
  have hd : ∀ i' : Fin 8, i' ≠ h → 128 * h.val + e.val < 128 * i'.val ∨ 128 * i'.val + 128 ≤ 128 * h.val + e.val := by
    intro i' hi'
    have := fun q => hi' (Fin.ext q)
    omega
  rw [← View.read_writes_junk_apply_eq_canon v12]
  unfold T12
  refine View.read_tilePieces (s := S1x256x1024) v12 _ S1x256x128.size (fun h : Fin 8 => ![0, 0, 128 * h.val]) outRow_inb _ 8 le_rfl (ix3 0 l ⟨128 * h.val + e.val, by omega⟩ : S1x256x1024.Idx) h h.2 (ix3 0 l e) ?_ 2 ?_
  · intro a
    fin_cases a
    · rfl
    · show l.val = 0 + l.val; omega
    · rfl
  · exact hd

theorem row13_all (v : View sig .tc .vmem S16x144x256 .f32) (f : v.ty.Contents (Elt F)) (w : Vec F S16x144x256 .f32) (ch : Fin 16) (r : Fin 144) (l : Fin 256) :
    row13 v (v.writes (Elt F) f [⟨Rect.unit (s := S16x144x256) ![0, 0, 0] S16x144x256.size inb_S16x144x256_S16x144x256_0_0_0, w⟩]) ch (ix3 0 r l) = w (ix3 ch r l) := by
  rw [row13_at]
  refine View.read_writes_cons_unit_of_mem v f inb_S16x144x256_S16x144x256_0_0_0 w [] (ix3 ch r l) (ix3 ch r l) rfl ?_
  intro a
  fin_cases a
  · show ch.val = 0 + ch.val; omega
  · show r.val = 0 + r.val; omega
  · show l.val = 0 + l.val; omega

section

variable (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X5 : BufTy.Contents (Elt F) arg5.view.ty) (X6 : BufTy.Contents (Elt F) arg6.view.ty) (f14 : BufTy.Contents (Elt F) arg14.view.ty)

/-- The running maxima before trip `n`, -/
def lM (n : ℕ) : FVec F S16x256 .f32 := (loopSt c i arg3 harg3 arg4 harg4 arg5 harg5 arg6 harg6 arg7 harg7 arg8 harg8 arg9 harg9 arg10 harg10 arg11 harg11 arg12 harg12 arg13 harg13 arg14 harg14 X3 X5 X6 f14 n).1

/-- chain `ch`'s accumulators, -/
def lA (n : ℕ) (ch : Fin 16) : Vec F S1x144x256 .f32 := row13 arg13.view (arg13.view.writes (Elt F) arg13.view.junk ((loopSt c i arg3 harg3 arg4 harg4 arg5 harg5 arg6 harg6 arg7 harg7 arg8 harg8 arg9 harg9 arg10 harg10 arg11 harg11 arg12 harg12 arg13 harg13 arg14 harg14 X3 X5 X6 f14 n).2.1 ++ zero13)) ch

/-- and its scores. -/
def lS (n : ℕ) (ch : Fin 16) : Vec F S1x512x256 .f32 := row14 arg14.view (arg14.view.writes (Elt F) f14 (loopSt c i arg3 harg3 arg4 harg4 arg5 harg5 arg6 harg6 arg7 harg7 arg8 harg8 arg9 harg9 arg10 harg10 arg11 harg11 arg12 harg12 arg13 harg13 arg14 harg14 X3 X5 X6 f14 n).2.2) ch

theorem lM_zero : lM c i arg3 harg3 arg4 harg4 arg5 harg5 arg6 harg6 arg7 harg7 arg8 harg8 arg9 harg9 arg10 harg10 arg11 harg11 arg12 harg12 arg13 harg13 arg14 harg14 X3 X5 X6 f14 0 = k0_pay539 := rfl

theorem lA_zero (ch : Fin 16) (r : Fin 144) (l : Fin 256) : lA c i arg3 harg3 arg4 harg4 arg5 harg5 arg6 harg6 arg7 harg7 arg8 harg8 arg9 harg9 arg10 harg10 arg11 harg11 arg12 harg12 arg13 harg13 arg14 harg14 X3 X5 X6 f14 0 ch (ix3 0 r l) = (k0_pay537 : FVec F S16x144x256 .f32) (ix3 ch r l) := by
  exact row13_all arg13.view arg13.view.junk k0_pay537 ch r l

theorem lS_zero : lS c i arg3 harg3 arg4 harg4 arg5 harg5 arg6 harg6 arg7 harg7 arg8 harg8 arg9 harg9 arg10 harg10 arg11 harg11 arg12 harg12 arg13 harg13 arg14 harg14 X3 X5 X6 f14 0 = row14 arg14.view f14 := rfl

theorem loopSt_succ (n : Fin (k0_t1_loop i).trips) :
    loopSt c i arg3 harg3 arg4 harg4 arg5 harg5 arg6 harg6 arg7 harg7 arg8 harg8 arg9 harg9 arg10 harg10 arg11 harg11 arg12 harg12 arg13 harg13 arg14 harg14 X3 X5 X6 f14 (n.val + 1) = (mChain crow (lS c i arg3 harg3 arg4 harg4 arg5 harg5 arg6 harg6 arg7 harg7 arg8 harg8 arg9 harg9 arg10 harg10 arg11 harg11 arg12 harg12 arg13 harg13 arg14 harg14 X3 X5 X6 f14 n.val) (lM c i arg3 harg3 arg4 harg4 arg5 harg5 arg6 harg6 arg7 harg7 arg8 harg8 arg9 harg9 arg10 harg10 arg11 harg11 arg12 harg12 arg13 harg13 arg14 harg14 X3 X5 X6 f14 n.val) 16 le_rfl,
      View.tilePieces (s := S16x144x256) S1x144x256.size (fun c : Fin 16 => ![c.val, 0, 0]) row13_inb
          (fun ch => accStep ch (mChain crow (lS c i arg3 harg3 arg4 harg4 arg5 harg5 arg6 harg6 arg7 harg7 arg8 harg8 arg9 harg9 arg10 harg10 arg11 harg11 arg12 harg12 arg13 harg13 arg14 harg14 X3 X5 X6 f14 n.val) (lM c i arg3 harg3 arg4 harg4 arg5 harg5 arg6 harg6 arg7 harg7 arg8 harg8 arg9 harg9 arg10 harg10 arg11 harg11 arg12 harg12 arg13 harg13 arg14 harg14 X3 X5 X6 f14 n.val) ch.val ch.2.le) (lS c i arg3 harg3 arg4 harg4 arg5 harg5 arg6 harg6 arg7 harg7 arg8 harg8 arg9 harg9 arg10 harg10 arg11 harg11 arg12 harg12 arg13 harg13 arg14 harg14 X3 X5 X6 f14 n.val ch) (vBlk i n arg6.view X6 ch 0) (vBlk i n arg6.view X6 ch 1) (lA c i arg3 harg3 arg4 harg4 arg5 harg5 arg6 harg6 arg7 harg7 arg8 harg8 arg9 harg9 arg10 harg10 arg11 harg11 arg12 harg12 arg13 harg13 arg14 harg14 X3 X5 X6 f14 n.val ch)) 16 le_rfl ++ (loopSt c i arg3 harg3 arg4 harg4 arg5 harg5 arg6 harg6 arg7 harg7 arg8 harg8 arg9 harg9 arg10 harg10 arg11 harg11 arg12 harg12 arg13 harg13 arg14 harg14 X3 X5 X6 f14 n.val).2.1,
      View.tilePieces (s := S16x512x256) S1x512x256.size (fun c : Fin 16 => ![c.val, 0, 0]) row14_inb
          (fun ch => scores (qAll arg3.view X3 ch) (kBlk i n arg5.view X5 ch)) 16 le_rfl ++ (loopSt c i arg3 harg3 arg4 harg4 arg5 harg5 arg6 harg6 arg7 harg7 arg8 harg8 arg9 harg9 arg10 harg10 arg11 harg11 arg12 harg12 arg13 harg13 arg14 harg14 X3 X5 X6 f14 n.val).2.2) := by
  have e : (![qAll arg3.view X3 0, qAll arg3.view X3 1, qAll arg3.view X3 2, qAll arg3.view X3 3, qAll arg3.view X3 4, qAll arg3.view X3 5, qAll arg3.view X3 6, qAll arg3.view X3 7, qAll arg3.view X3 8, qAll arg3.view X3 9, qAll arg3.view X3 10, qAll arg3.view X3 11, qAll arg3.view X3 12, qAll arg3.view X3 13, qAll arg3.view X3 14, qAll arg3.view X3 15] : Fin 16 → FVec F S128x256 .bf16) = qAll arg3.view X3 := by
    funext ch; fin_cases ch <;> rfl
  have ew : ∀ L, arg13.view.writes (Elt F) (arg13.view.writes (Elt F) arg13.view.junk zero13) L = arg13.view.writes (Elt F) arg13.view.junk (L ++ zero13) :=
    fun L => (View.writes_append arg13.view _ L zero13).symm
  unfold lS lM lA
  rw [← ew]
  conv_lhs => unfold loopSt
  rw [st_k0_t1_succ]
  dsimp only [tripR_k0_t1, tripL_k0_t1]
  rw [trip_max, trip_acc, trip_scores, e]
  rfl

theorem lM_succ (n : Fin (k0_t1_loop i).trips) : lM c i arg3 harg3 arg4 harg4 arg5 harg5 arg6 harg6 arg7 harg7 arg8 harg8 arg9 harg9 arg10 harg10 arg11 harg11 arg12 harg12 arg13 harg13 arg14 harg14 X3 X5 X6 f14 (n.val + 1) = mChain crow (lS c i arg3 harg3 arg4 harg4 arg5 harg5 arg6 harg6 arg7 harg7 arg8 harg8 arg9 harg9 arg10 harg10 arg11 harg11 arg12 harg12 arg13 harg13 arg14 harg14 X3 X5 X6 f14 n.val) (lM c i arg3 harg3 arg4 harg4 arg5 harg5 arg6 harg6 arg7 harg7 arg8 harg8 arg9 harg9 arg10 harg10 arg11 harg11 arg12 harg12 arg13 harg13 arg14 harg14 X3 X5 X6 f14 n.val) 16 le_rfl := by
  conv_lhs => unfold lM
  rw [loopSt_succ]

theorem lA_succ (n : Fin (k0_t1_loop i).trips) (ch : Fin 16) : lA c i arg3 harg3 arg4 harg4 arg5 harg5 arg6 harg6 arg7 harg7 arg8 harg8 arg9 harg9 arg10 harg10 arg11 harg11 arg12 harg12 arg13 harg13 arg14 harg14 X3 X5 X6 f14 (n.val + 1) ch
    = accStep ch (mChain crow (lS c i arg3 harg3 arg4 harg4 arg5 harg5 arg6 harg6 arg7 harg7 arg8 harg8 arg9 harg9 arg10 harg10 arg11 harg11 arg12 harg12 arg13 harg13 arg14 harg14 X3 X5 X6 f14 n.val) (lM c i arg3 harg3 arg4 harg4 arg5 harg5 arg6 harg6 arg7 harg7 arg8 harg8 arg9 harg9 arg10 harg10 arg11 harg11 arg12 harg12 arg13 harg13 arg14 harg14 X3 X5 X6 f14 n.val) ch.val ch.2.le) (lS c i arg3 harg3 arg4 harg4 arg5 harg5 arg6 harg6 arg7 harg7 arg8 harg8 arg9 harg9 arg10 harg10 arg11 harg11 arg12 harg12 arg13 harg13 arg14 harg14 X3 X5 X6 f14 n.val ch) (vBlk i n arg6.view X6 ch 0) (vBlk i n arg6.view X6 ch 1) (lA c i arg3 harg3 arg4 harg4 arg5 harg5 arg6 harg6 arg7 harg7 arg8 harg8 arg9 harg9 arg10 harg10 arg11 harg11 arg12 harg12 arg13 harg13 arg14 harg14 X3 X5 X6 f14 n.val ch) := by
  conv_lhs => unfold lA
  rw [loopSt_succ, List.append_assoc, row13_tiles, if_pos ch.2]

theorem lS_succ (n : Fin (k0_t1_loop i).trips) (ch : Fin 16) : lS c i arg3 harg3 arg4 harg4 arg5 harg5 arg6 harg6 arg7 harg7 arg8 harg8 arg9 harg9 arg10 harg10 arg11 harg11 arg12 harg12 arg13 harg13 arg14 harg14 X3 X5 X6 f14 (n.val + 1) ch
    = scores (qAll arg3.view X3 ch) (kBlk i n arg5.view X5 ch) := by
  conv_lhs => unfold lS
  rw [loopSt_succ, row14_tiles, if_pos ch.2]

end

end Cert.Proof.Attn

end
-- ==== Proof.AttnOffs.lean ====
/-
  The attention kernel's offsets at every grid point.
-/
module
public import proofs.«01_k».proof.Proof.AttnFinish
public import proofs.«01_k».proof.Proof.AttnRun

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-- The number of trips is half the query block's number. -/
theorem nTrip_eq : ∀ t : Fin cfg0.N, nTrip (grid0.coords t) = t.val % 16 / 2 :=
  (by decide +kernel : ∀ t : Fin grid0.N, _)

theorem trips_eq (t : Fin cfg0.N) : (k0_t1_loop (grid0.coords t)).trips = t.val % 16 / 2 := nTrip_eq t

theorem kOff_eq : ∀ (t : Fin cfg0.N) (k : Fin (k0_t1_loop (grid0.coords t)).trips) (h : Fin 8),
    kOff (grid0.coords t) k h = ![0, 512 * (k.val + 1), 128 * h.val] :=
  (by decide +kernel : ∀ (t : Fin grid0.N) (k : Fin (k0_t1_loop (grid0.coords t)).trips) (h : Fin 8), _)

theorem vOff_eq : ∀ (t : Fin cfg0.N) (k : Fin (k0_t1_loop (grid0.coords t)).trips) (h : Fin 8) (r : Fin 2),
    vOff (grid0.coords t) k h (BitVec.ofNat 32 r.val) = ![0, 2 * k.val + r.val, h.val, 0, 0] :=
  (by decide +kernel : ∀ (t : Fin grid0.N) (k : Fin (k0_t1_loop (grid0.coords t)).trips) (h : Fin 8) (r : Fin 2), _)

theorem offE_eq : ∀ (t : Fin cfg0.N) (_ : t.val % 2 = 0) (h : Fin 8), offE (grid0.coords t) h = ![0, t.val % 16, h.val, 0, 0] :=
  (by decide +kernel : ∀ (t : Fin grid0.N) (_ : t.val % 2 = 0) (h : Fin 8), _)

theorem offO_eq : ∀ (t : Fin cfg0.N) (_ : t.val % 2 = 1) (h : Fin 8) (r : Fin 2),
    offO (grid0.coords t) h (BitVec.ofNat 32 r.val) = ![0, t.val % 16 - 1 + r.val, h.val, 0, 0] :=
  (by decide +kernel : ∀ (t : Fin grid0.N) (_ : t.val % 2 = 1) (h : Fin 8) (r : Fin 2), _)

end Cert.Proof.Attn

end
-- ==== Proof.AttnBlocks.lean ====
/-
  Where the attention kernel's loads of queries, keys and values read, at every grid point.
-/
module
public import proofs.«01_k».proof.Proof.AttnRows
public import proofs.«01_k».proof.Proof.AttnOffs

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

/-- A load of a head's keys, at an index. -/
theorem load3 (v : View sig .tc .vmem S1x4096x1024 .bf16) (f : v.ty.Contents (Elt F)) {off : Fin 3 → ℕ} (g0 : ℕ) (h : Fin 8) (e : off = ![0, g0, 128 * h.val]) (inb : ∀ a, off a + S1x512x128.size a ≤ S1x4096x1024.size a) (j : Fin 512) (d : Fin 128) (hg : g0 + j.val < 4096) :
    View.readAt (Elt F) v (Rect.unit (s := S1x4096x1024) off S1x512x128.size inb).toLoadRect f (ix3 0 j d) = v.read (Elt F) f (ix3 0 ⟨g0 + j.val, hg⟩ ⟨128 * h.val + d.val, by omega⟩) := by
  subst e
  rw [View.readAt_unit v f inb rfl inb]
  show v.read (Elt F) f ((Rect.unit (s := S1x4096x1024) ![0, g0, 128 * h.val] S1x512x128.size inb).emb (ix3 0 j d)) = _
  congr 1
  funext a
  apply Fin.ext
  fin_cases a
  · rfl
  · show g0 + 1 * j.val = g0 + j.val; omega
  · show 128 * h.val + 1 * d.val = 128 * h.val + d.val; omega

/-- A load of a head's values, at an index. -/
theorem load5 (v : View sig .tc .vmem S1x16x8x128x256 .bf16) (f : v.ty.Contents (Elt F)) {off : Fin 5 → ℕ} (n : ℕ) (h : Fin 8) (e : off = ![0, n, h.val, 0, 0]) (inb : ∀ a, off a + S1x1x1x128x256.size a ≤ S1x16x8x128x256.size a) (d : Fin 128) (p : Fin 256) (hn : n < 16) :
    View.readAt (Elt F) v (Rect.unit (s := S1x16x8x128x256) off S1x1x1x128x256.size inb).toLoadRect f (ix5 0 0 0 d p) = v.read (Elt F) f (ix5 0 ⟨n, hn⟩ h d p) := by
  subst e
  rw [View.readAt_unit v f inb rfl inb]
  show v.read (Elt F) f ((Rect.unit (s := S1x16x8x128x256) ![0, n, h.val, 0, 0] S1x1x1x128x256.size inb).emb (ix5 0 0 0 d p)) = _
  congr 1
  funext a
  apply Fin.ext
  fin_cases a
  · rfl
  · show n + 1 * 0 = n; omega
  · show h.val + 1 * 0 = h.val; omega
  · show 0 + 1 * d.val = d.val; omega
  · show 0 + 1 * p.val = p.val; omega

/-- A load of a head's queries, at an index. -/
theorem loadQ (v : View sig .tc .vmem S1x1x8x128x256 .bf16) (f : v.ty.Contents (Elt F)) (h : Fin 8) (d : Fin 128) (p : Fin 256) :
    View.readAt (Elt F) v (Rect.unit (s := S1x1x8x128x256) ![0, 0, h.val, 0, 0] S1x1x1x128x256.size (qRow_inb h)).toLoadRect f (ix5 0 0 0 d p) = v.read (Elt F) f (ix5 0 0 h d p) := by
  rw [View.readAt_unit v f (qRow_inb h) rfl (qRow_inb h)]
  show v.read (Elt F) f ((Rect.unit (s := S1x1x8x128x256) ![0, 0, h.val, 0, 0] S1x1x1x128x256.size (qRow_inb h)).emb (ix5 0 0 0 d p)) = _
  congr 1
  funext a
  apply Fin.ext
  fin_cases a
  · rfl
  · rfl
  · show h.val + 1 * 0 = h.val; omega
  · show 0 + 1 * d.val = d.val; omega
  · show 0 + 1 * p.val = p.val; omega

theorem kFirst_at (v : View sig .tc .vmem S1x4096x1024 .bf16) (f : v.ty.Contents (Elt F)) (c : Fin 16) (j : Fin 512) (d : Fin 128) :
    kFirst v f c (ix3 0 j d) = v.read (Elt F) f (ix3 0 ⟨j.val, by omega⟩ ⟨128 * (hd c).val + d.val, by omega⟩) := by
  unfold kFirst
  rw [load3 v f 0 (hd c) rfl _ j d (by omega)]
  congr 2
  exact Fin.ext (Nat.zero_add _)

theorem kBlk_at (t : Fin cfg0.N) (k : Fin (k0_t1_loop (grid0.coords t)).trips) (v : View sig .tc .vmem S1x4096x1024 .bf16) (f : v.ty.Contents (Elt F)) (c : Fin 16) (j : Fin 512) (d : Fin 128) :
    kBlk (grid0.coords t) k v f c (ix3 0 j d) = v.read (Elt F) f (ix3 0 ⟨512 * (k.val + 1) + j.val, by have := k.2; have := trips_eq t; omega⟩ ⟨128 * (hd c).val + d.val, by omega⟩) :=
  load3 v f _ (hd c) (kOff_eq t k (hd c)) _ j d (by have := k.2; have := trips_eq t; omega)

theorem vBlk_at (t : Fin cfg0.N) (k : Fin (k0_t1_loop (grid0.coords t)).trips) (v : View sig .tc .vmem S1x16x8x128x256 .bf16) (f : v.ty.Contents (Elt F)) (c : Fin 16) (r : Fin 2) (d : Fin 128) (p : Fin 256) :
    vBlk (grid0.coords t) k v f c r (ix5 0 0 0 d p) = v.read (Elt F) f (ix5 0 ⟨2 * k.val + r.val, by have := k.2; have := trips_eq t; omega⟩ (hd c) d p) :=
  load5 v f _ (hd c) (vOff_eq t k (hd c) r) _ d p (by have := k.2; have := trips_eq t; omega)

theorem vEven_at (t : Fin cfg0.N) (ht : t.val % 2 = 0) (hc : k0_cond2 (grid0.coords t) = 1#1) (v : View sig .tc .vmem S1x16x8x128x256 .bf16) (f : v.ty.Contents (Elt F)) (c : Fin 16) (d : Fin 128) (p : Fin 256) :
    vEven (grid0.coords t) hc v f c (ix5 0 0 0 d p) = v.read (Elt F) f (ix5 0 ⟨t.val % 16, by omega⟩ (hd c) d p) :=
  load5 v f _ (hd c) (offE_eq t ht (hd c)) _ d p (by omega)

theorem vOdd_at (t : Fin cfg0.N) (ht : t.val % 2 = 1) (hc : k0_cond3 (grid0.coords t) = 1#1) (v : View sig .tc .vmem S1x16x8x128x256 .bf16) (f : v.ty.Contents (Elt F)) (c : Fin 16) (r : Fin 2) (d : Fin 128) (p : Fin 256) :
    vOdd (grid0.coords t) hc v f c r (ix5 0 0 0 d p) = v.read (Elt F) f (ix5 0 ⟨t.val % 16 - 1 + r.val, by omega⟩ (hd c) d p) :=
  load5 v f _ (hd c) (offO_eq t ht (hd c) r) _ d p (by omega)

end Cert.Proof.Attn

end
-- ==== Proof.AttnPoint.lean ====
/-
  The output block of a point of the attention kernel's grid, from what its windows hold.
-/
module
public import proofs.«01_k».proof.Proof.AttnCore
public import proofs.«01_k».proof.Proof.AttnBlocks

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

/-- A chain's score of key `g` for the query in column `l`. -/
def sg (qb : Fin 8 → Fin 128 → Fin 256 → ℝ) (kb : ℕ → Fin 8 → Fin 128 → ℝ) (ch : Fin 16) (l : Fin 256) (g : ℕ) : ℝ :=
  ∑ d : Fin 128, kb g (hd ch) d * (if (d.val < 64 ↔ ch.val % 2 = 0) then qb (hd ch) d l else 0)

/-- A chain's values over its rows of ones. -/
def wv (vv : ℕ → Fin 8 → Fin 128 → ℝ) (ch : Fin 16) (r : Fin 144) (g : ℕ) : ℝ := if h : r.val < 128 then vv g (hd ch) ⟨r.val, h⟩ else 1

/-- A head's normalised sum of the values up to a position. -/
def ratio (qb : Fin 8 → Fin 128 → Fin 256 → ℝ) (kb : ℕ → Fin 8 → Fin 128 → ℝ) (vv : ℕ → Fin 8 → Fin 128 → ℝ) (ch : Fin 16) (l : Fin 256) (pos : ℕ) (e : Fin 128) : ℝ :=
  total (sg qb kb ch l) (fun g => vv g (hd ch) e) pos / total (sg qb kb ch l) (fun _ => 1) pos

/-- Scores of real queries and keys. -/
theorem scores_real (q : FVec Ideal S128x256 .bf16) (k : FVec Ideal S1x512x128 .bf16) (j : Fin 512) (l : Fin 256) (a b : Fin 128 → ℝ)
    (hk : ∀ d, k (ix3 0 j d) = ((a d : ℝ) : EReal)) (hq : ∀ d, q (ix2 d l) = ((b d : ℝ) : EReal)) :
    scores q k (ix3 0 j l) = ((∑ d, a d * b d : ℝ) : EReal) := by
  rw [scores_at, coe_sum]
  refine Finset.sum_congr rfl fun d _ => ?_
  rw [hk, hq, EReal.coe_mul]

/-- The masked queries of a chain, from the query window. -/
theorem qAll_real (v : View sig .tc .vmem S1x1x8x128x256 .bf16) (f : v.ty.Contents (Elt Ideal)) (qb : Fin 8 → Fin 128 → Fin 256 → ℝ)
    (hq : ∀ h d l, v.read (Elt Ideal) f (ix5 0 0 h d l) = ((qb h d l : ℝ) : EReal)) (ch : Fin 16) (d : Fin 128) (l : Fin 256) :
    qAll v f ch (ix2 d l) = (((if (d.val < 64 ↔ ch.val % 2 = 0) then qb (hd ch) d l else 0 : ℝ)) : EReal) := by
  unfold qAll
  rw [qOp_at, loadQ, hq]
  split <;> simp

section

variable (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt Ideal) arg3.view.ty) (X5 : BufTy.Contents (Elt Ideal) arg5.view.ty) (X6 : BufTy.Contents (Elt Ideal) arg6.view.ty) (f14 : BufTy.Contents (Elt Ideal) arg14.view.ty)
  (qb : Fin 8 → Fin 128 → Fin 256 → ℝ) (kb : ℕ → Fin 8 → Fin 128 → ℝ) (vv : ℕ → Fin 8 → Fin 128 → ℝ)

/-- What the windows of queries, keys and values hold. -/
structure Reads (v3 : View sig .tc .vmem S1x1x8x128x256 .bf16) (f3 : v3.ty.Contents (Elt Ideal)) (v5 : View sig .tc .vmem S1x4096x1024 .bf16) (f5 : v5.ty.Contents (Elt Ideal)) (v6 : View sig .tc .vmem S1x16x8x128x256 .bf16) (f6 : v6.ty.Contents (Elt Ideal)) : Prop where
  q : ∀ (h : Fin 8) (d : Fin 128) (l : Fin 256), v3.read (Elt Ideal) f3 (ix5 0 0 h d l) = ((qb h d l : ℝ) : EReal)
  k : ∀ (g : Fin 4096) (h : Fin 8) (d : Fin 128), v5.read (Elt Ideal) f5 (ix3 0 g ⟨128 * h.val + d.val, by omega⟩) = ((kb g.val h d : ℝ) : EReal)
  v : ∀ (n : Fin 16) (h : Fin 8) (d : Fin 128) (p : Fin 256), v6.read (Elt Ideal) f6 (ix5 0 n h d p) = ((vv (256 * n.val + p.val) h d : ℝ) : EReal)

variable {qb kb vv}

/-- Two neighbouring value blocks over ones. -/
theorem ones_real (V0 V1 : FVec Ideal S1x1x1x128x256 .bf16) (ch : Fin 16) (g0 : ℕ)
    (h0 : ∀ (d : Fin 128) (p : Fin 256), V0 (ix5 0 0 0 d p) = ((vv (g0 + p.val) (hd ch) d : ℝ) : EReal))
    (h1 : ∀ (d : Fin 128) (p : Fin 256), V1 (ix5 0 0 0 d p) = ((vv (g0 + 256 + p.val) (hd ch) d : ℝ) : EReal)) (r : Fin 144) (j : Fin 512) :
    (vOnes (F := Ideal) V0 V1 (ix2 r j) : EReal) = ((wv vv ch r (g0 + j.val) : ℝ) : EReal) := by
  rw [vOnes_top]
  unfold wv
  by_cases h : r.val < 128
  · rw [dif_pos h, dif_pos h]
    by_cases h' : j.val < 256
    · rw [dif_pos h', h0]
    · rw [dif_neg h', h1]
      have e : g0 + 256 + (j.val - 256) = g0 + j.val := by omega
      show ((vv (g0 + 256 + (j.val - 256)) (hd ch) ⟨r.val, h⟩ : ℝ) : EReal) = _
      rw [e]
  · rw [dif_neg h, dif_neg h]; rfl

theorem chains (R : Reads qb kb vv arg3.view X3 arg5.view X5 arg6.view X6)
    (h0 : ∀ (ch : Fin 16) (j : Fin 512) (l : Fin 256), row14 arg14.view f14 ch (ix3 0 j l) = ((sg qb kb ch l j.val : ℝ) : EReal)) :
    Chains (N := (k0_t1_loop (grid0.coords t)).trips) (lM (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (lA (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (lS (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14)
      (fun n ch r => vBlk (grid0.coords t) n arg6.view X6 ch r) (sg qb kb) (wv vv) where
  m0 := lM_zero c (grid0.coords t) arg3 harg3 arg4 harg4 arg5 harg5 arg6 harg6 arg7 harg7 arg8 harg8 arg9 harg9 arg10 harg10 arg11 harg11 arg12 harg12 arg13 harg13 arg14 harg14 X3 X5 X6 f14
  a0 := fun ch r l => lA_zero c (grid0.coords t) arg3 harg3 arg4 harg4 arg5 harg5 arg6 harg6 arg7 harg7 arg8 harg8 arg9 harg9 arg10 harg10 arg11 harg11 arg12 harg12 arg13 harg13 arg14 harg14 X3 X5 X6 f14 ch r l
  m1 := fun n => lM_succ c (grid0.coords t) arg3 harg3 arg4 harg4 arg5 harg5 arg6 harg6 arg7 harg7 arg8 harg8 arg9 harg9 arg10 harg10 arg11 harg11 arg12 harg12 arg13 harg13 arg14 harg14 X3 X5 X6 f14 n
  a1 := fun n ch => lA_succ c (grid0.coords t) arg3 harg3 arg4 harg4 arg5 harg5 arg6 harg6 arg7 harg7 arg8 harg8 arg9 harg9 arg10 harg10 arg11 harg11 arg12 harg12 arg13 harg13 arg14 harg14 X3 X5 X6 f14 n ch
  s := by
    intro n hn ch j l
    cases n with
    | zero =>
      rw [lS_zero, h0]
      congr 2
      omega
    | succ n =>
      rw [lS_succ c (grid0.coords t) arg3 harg3 arg4 harg4 arg5 harg5 arg6 harg6 arg7 harg7 arg8 harg8 arg9 harg9 arg10 harg10 arg11 harg11 arg12 harg12 arg13 harg13 arg14 harg14 X3 X5 X6 f14 ⟨n, hn⟩ ch]
      exact scores_real _ _ j l (fun d => kb (512 * (n + 1) + j.val) (hd ch) d) _ (fun d => by rw [kBlk_at, R.k]) (fun d => qAll_real _ _ _ R.q ch d l)
  v := by
    intro n ch r j
    refine ones_real _ _ ch (512 * n.val) (fun d p => ?_) (fun d p => ?_) r j
    · rw [vBlk_at, R.v]
      congr 2
      show 256 * (2 * n.val + 0) + p.val = 512 * n.val + p.val
      omega
    · rw [vBlk_at, R.v]
      congr 2
      show 256 * (2 * n.val + 1) + p.val = 512 * n.val + 256 + p.val
      omega

/-- A chain finished at an even query block. -/
theorem finE_rep (R : Reads qb kb vv arg3.view X3 arg5.view X5 arg6.view X6)
    (h0 : ∀ (ch : Fin 16) (j : Fin 512) (l : Fin 256), row14 arg14.view f14 ch (ix3 0 j l) = ((sg qb kb ch l j.val : ℝ) : EReal))
    (ht : t.val % 2 = 0) (hc : k0_cond2 (grid0.coords t) = 1#1) (g14 : BufTy.Contents (Elt Ideal) arg14.view.ty) (b14 : List (View.Piece (Elt Ideal) S16x512x256 .f32))
    (hrow : ∀ ch, row14 arg14.view (arg14.view.writes (Elt Ideal) g14 b14) ch = (lS (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t)) ch)
    (q : Fin 16 → FVec Ideal S128x256 .bf16) (k : Fin 16 → Vec Ideal S1x512x128 .bf16) (ch : Fin 16) (l : Fin 256) :
    ∃ mx, ∀ r : Fin 144, Rep mx (finE (grid0.coords t) hc arg6.view X6 arg14.view g14 b14 q k ((lM (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t))) ch ((lA (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t)) ch) (ix3 0 r l))
      (total (sg qb kb ch l) (wv vv ch r) (256 * (t.val % 16) + l.val)) := by
  have hN := nTrip_eq t
  have hp : 256 * (t.val % 16) + l.val = 512 * nTrip (grid0.coords t) + l.val := by omega
  rw [hp]
  unfold finE
  refine Chains.even (N := nTrip (grid0.coords t)) (chains c t arg3 harg3 arg4 harg4 arg5 harg5 arg6 harg6 arg7 harg7 arg8 harg8 arg9 harg9 arg10 harg10 arg11 harg11 arg12 harg12 arg13 harg13 arg14 harg14 X3 X5 X6 f14 R h0) (by omega) ch l _ (fun j => ?_) _ (fun r j => ?_)
  · rw [half14_at, row14_T14, if_neg (Nat.lt_irrefl _), hrow]
  · unfold wv
    by_cases h : r.val < 128
    · rw [dif_pos h, dif_pos h, vEven_at t ht, R.v]
      congr 2
      show 256 * (t.val % 16) + j.val = 512 * nTrip (grid0.coords t) + j.val
      omega
    · rw [dif_neg h, dif_neg h]; rfl

/-- A chain finished at an odd query block. -/
theorem finO_rep (R : Reads qb kb vv arg3.view X3 arg5.view X5 arg6.view X6)
    (h0 : ∀ (ch : Fin 16) (j : Fin 512) (l : Fin 256), row14 arg14.view f14 ch (ix3 0 j l) = ((sg qb kb ch l j.val : ℝ) : EReal))
    (ht : t.val % 2 = 1) (hc : k0_cond3 (grid0.coords t) = 1#1) (g14 : BufTy.Contents (Elt Ideal) arg14.view.ty) (b14 : List (View.Piece (Elt Ideal) S16x512x256 .f32))
    (hrow : ∀ ch, row14 arg14.view (arg14.view.writes (Elt Ideal) g14 b14) ch = (lS (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t)) ch)
    (q : Fin 16 → FVec Ideal S128x256 .bf16) (k : Fin 16 → Vec Ideal S1x512x128 .bf16) (ch : Fin 16) (l : Fin 256) :
    ∃ mx, ∀ r : Fin 144, Rep mx (finO (grid0.coords t) hc arg6.view X6 arg14.view g14 b14 q k ((lM (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t))) ch ((lA (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t)) ch) (ix3 0 r l))
      (total (sg qb kb ch l) (wv vv ch r) (256 * (t.val % 16) + l.val)) := by
  have hN := nTrip_eq t
  have hp : 256 * (t.val % 16) + l.val = 512 * nTrip (grid0.coords t) + 256 + l.val := by omega
  rw [hp]
  unfold finO
  refine Chains.odd (N := nTrip (grid0.coords t)) (chains c t arg3 harg3 arg4 harg4 arg5 harg5 arg6 harg6 arg7 harg7 arg8 harg8 arg9 harg9 arg10 harg10 arg11 harg11 arg12 harg12 arg13 harg13 arg14 harg14 X3 X5 X6 f14 R h0) (by omega) ch l _ (fun j => ?_) _ _ (fun r j => ?_)
  · rw [row14_T14, if_neg (Nat.lt_irrefl _), hrow]
  · refine ones_real _ _ ch (512 * nTrip (grid0.coords t)) (fun d p => ?_) (fun d p => ?_) r j
    · rw [vOdd_at t ht, R.v]
      congr 2
      show 256 * (t.val % 16 - 1 + 0) + p.val = 512 * nTrip (grid0.coords t) + p.val
      omega
    · rw [vOdd_at t ht, R.v]
      congr 2
      show 256 * (t.val % 16 - 1 + 1) + p.val = 512 * nTrip (grid0.coords t) + 256 + p.val
      omega

/-- The output block's element of head `h`. -/
def outAt (qb : Fin 8 → Fin 128 → Fin 256 → ℝ) (kb : ℕ → Fin 8 → Fin 128 → ℝ) (vv : ℕ → Fin 8 → Fin 128 → ℝ) (lam : EReal) (nw : Fin 128 → EReal) (pos : ℕ) (h : Fin 8) (l : Fin 256) (e : Fin 128) : EReal :=
  normAt (fun e => ((ratio qb kb vv ⟨2 * h.val, by omega⟩ l pos e : ℝ) : EReal) - lam * ((ratio qb kb vv ⟨2 * h.val + 1, by omega⟩ l pos e : ℝ) : EReal)) (nw e) e

/-- The output block after the chains are finished. -/
theorem point (fin : Fin 16 → Vec Ideal S1x144x256 .f32 → FVec Ideal S1x144x256 .f32) (pos : Fin 256 → ℕ) (lam : FVec Ideal S1x1 .f32) (nw : Vec Ideal S128x1 .f32)
    (H : ∀ (ch : Fin 16) (l : Fin 256), ∃ mx, ∀ r : Fin 144, Rep mx (fin ch ((lA (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t)) ch) (ix3 0 r l)) (total (sg qb kb ch l) (wv vv ch r) (pos l)))
    (h : Fin 8) (l : Fin 256) (e : Fin 128) :
    View.canon (T12 arg13.view (fun h => T13 arg13.view fin ((loopSt (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14 (nTrip (grid0.coords t))).2.1 ++ zero13) (2 * h.val + 2) (by omega)) lam nw) (ix3 0 l ⟨128 * h.val + e.val, by omega⟩)
      = outAt qb kb vv (lam (ix2 0 0)) (fun e => nw (ix2 e 0)) (pos l) h l e := by
  have key : ∀ (ch : Fin 16) (n : ℕ) (hn : n ≤ 16), ch.val < n → ∀ e : Fin 128, Ideal.div
      (row13 arg13.view (arg13.view.writes (Elt Ideal) arg13.view.junk (T13 arg13.view fin ((loopSt (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14 (nTrip (grid0.coords t))).2.1 ++ zero13) n hn)) ch (ix3 0 ⟨e.val, by omega⟩ l))
      (row13 arg13.view (arg13.view.writes (Elt Ideal) arg13.view.junk (T13 arg13.view fin ((loopSt (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14 (nTrip (grid0.coords t))).2.1 ++ zero13) n hn)) ch (ix3 0 128 l)) = ((ratio qb kb vv ch l (pos l) e : ℝ) : EReal) := by
    intro ch n hn hc e
    rw [row13_T13, if_pos hc]
    obtain ⟨mx, hm⟩ := H ch l
    have hq := quot (a := fun r => fin ch ((lA (F := Ideal) c (grid0.coords t) arg3 harg3 arg4 harg4 arg5 harg5 arg6 harg6 arg7 harg7 arg8 harg8 arg9 harg9 arg10 harg10 arg11 harg11 arg12 harg12 arg13 harg13 arg14 harg14 X3 X5 X6 f14) (nTrip (grid0.coords t)) ch) (ix3 0 r l)) hm (fun g => by unfold wv; exact dif_neg (by decide)) ⟨e.val, by omega⟩
    refine hq.trans ?_
    unfold ratio
    have hw : wv vv ch ⟨e.val, by omega⟩ = fun g => vv g (hd ch) e := by
      funext g
      unfold wv
      exact dif_pos e.2
    rw [hw]
  rw [canon_T12 arg12.view, outBlk_at]
  unfold outAt
  congr 1
  funext e
  unfold headAt
  rw [key _ _ _ (by show 2 * h.val < 2 * h.val + 2; omega), key _ _ _ (by show 2 * h.val + 1 < 2 * h.val + 2; omega)]

end

end Cert.Proof.Attn

end
-- ==== Proof.AttnOutFirst.lean ====
/-
  The attention body's stores at a query block that opens a batch.
-/
module
public import proofs.«01_k».proof.Proof.AttnRunFirst
public import proofs.«01_k».proof.Proof.AttnFinish

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f13 : BufTy.Contents (Elt F) arg13.view.ty) (f14 : BufTy.Contents (Elt F) arg14.view.ty)

set_option maxHeartbeats 4000000 in
/-- The scores left. -/
theorem sc_First (hc1 : k0_cond1 i = 1#1) (hc2 : k0_cond2 i = 1#1) (hc3 : ¬ k0_cond3 i = 1#1) : (runFirst (F := F) c i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 X9 X10 X11).2.2.1 f13 f14
      = arg14.view.writes (Elt F) arg14.view.junk (T14 (qAll arg4.view X4) (kFirst arg5.view X5) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) 16 le_rfl) := by
  delta runFirst
  rfl

theorem tab_First_1 (hc2 : k0_cond2 i = 1#1) : runFirst.sl.H13_1_1 (F := F) c i arg3 harg3 arg4 harg4 arg5 harg5 arg6 harg6 arg7 harg7 arg8 harg8 arg9 harg9 arg10 harg10 arg11 harg11 arg12 harg12 arg13 harg13 arg14 harg14 hc2 X3 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 1 (by omega) :=
  T13_step _ _ _ 0 _ (T := ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13)) (rfl) rfl

theorem tab_First_2 (hc2 : k0_cond2 i = 1#1) : runFirst.sl.H13_2 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 2 (by omega) :=
  T13_step _ _ _ 1 _ (tab_First_1 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_3 (hc2 : k0_cond2 i = 1#1) : runFirst.sl.H13_3 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 3 (by omega) :=
  T13_step _ _ _ 2 _ (tab_First_2 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_4 (hc2 : k0_cond2 i = 1#1) : runFirst.sl.H13_4 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 4 (by omega) :=
  T13_step _ _ _ 3 _ (tab_First_3 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_5 (hc2 : k0_cond2 i = 1#1) : runFirst.sl.H13_5 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 5 (by omega) :=
  T13_step _ _ _ 4 _ (tab_First_4 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_6 (hc2 : k0_cond2 i = 1#1) : runFirst.sl.H13_6 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 6 (by omega) :=
  T13_step _ _ _ 5 _ (tab_First_5 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_7 (hc2 : k0_cond2 i = 1#1) : runFirst.sl.H13_7 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 7 (by omega) :=
  T13_step _ _ _ 6 _ (tab_First_6 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_8 (hc2 : k0_cond2 i = 1#1) : runFirst.sl.H13_8 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 8 (by omega) :=
  T13_step _ _ _ 7 _ (tab_First_7 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_9 (hc2 : k0_cond2 i = 1#1) : runFirst.sl.H13_9 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 9 (by omega) :=
  T13_step _ _ _ 8 _ (tab_First_8 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_10 (hc2 : k0_cond2 i = 1#1) : runFirst.sl.H13_10 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 10 (by omega) :=
  T13_step _ _ _ 9 _ (tab_First_9 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_11 (hc2 : k0_cond2 i = 1#1) : runFirst.sl.H13_11 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 11 (by omega) :=
  T13_step _ _ _ 10 _ (tab_First_10 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_12 (hc2 : k0_cond2 i = 1#1) : runFirst.sl.H13_12 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 12 (by omega) :=
  T13_step _ _ _ 11 _ (tab_First_11 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_13 (hc2 : k0_cond2 i = 1#1) : runFirst.sl.H13_13 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 13 (by omega) :=
  T13_step _ _ _ 12 _ (tab_First_12 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_14 (hc2 : k0_cond2 i = 1#1) : runFirst.sl.H13_14 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 14 (by omega) :=
  T13_step _ _ _ 13 _ (tab_First_13 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_15 (hc2 : k0_cond2 i = 1#1) : runFirst.sl.H13_15 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 15 (by omega) :=
  T13_step _ _ _ 14 _ (tab_First_14 c i arg3 harg3 arg4 harg4 arg5 harg5 arg6 harg6 arg7 harg7 arg8 harg8 arg9 harg9 arg10 harg10 arg11 harg11 arg12 harg12 arg13 harg13 arg14 harg14 X3 X4 X5 X6 hc2) rfl

theorem tab_First_16 (hc2 : k0_cond2 i = 1#1) : runFirst.sl.H13_16 (F := F) c i arg3 harg3 arg4 harg4 arg5 harg5 arg6 harg6 arg7 harg7 arg8 harg8 arg9 harg9 arg10 harg10 arg11 harg11 arg12 harg12 arg13 harg13 arg14 harg14 hc2 X3 X4 X5 X6 = T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) 16 (by omega) :=
  T13_step _ _ _ 15 _ (tab_First_15 c i arg3 harg3 arg4 harg4 arg5 harg5 arg6 harg6 arg7 harg7 arg8 harg8 arg9 harg9 arg10 harg10 arg11 harg11 arg12 harg12 arg13 harg13 arg14 harg14 X3 X4 X5 X6 hc2) rfl

set_option maxHeartbeats 4000000 in
/-- The output stores. -/
theorem out_First (hc1 : k0_cond1 i = 1#1) (hc2 : k0_cond2 i = 1#1) (hc3 : ¬ k0_cond3 i = 1#1) : (runFirst (F := F) c i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 X9 X10 X11).1 f13 f14
      = T12 arg13.view (fun h => T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) (2 * h.val + 2) (by omega)) (lamOf arg7.view arg8.view arg9.view arg10.view X7 X8 X9 X10) (nwOf arg11.view X11) := by
  have e : (![runFirst.sl.H13_2 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_4 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_6 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_8 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_10 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_12 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_14 (F := F) c i arg3 harg3 arg4 harg4 arg5 harg5 arg6 harg6 arg7 harg7 arg8 harg8 arg9 harg9 arg10 harg10 arg11 harg11 arg12 harg12 arg13 harg13 arg14 harg14 hc2 X3 X4 X5 X6, runFirst.sl.H13_16 (F := F) c i arg3 harg3 arg4 harg4 arg5 harg5 arg6 harg6 arg7 harg7 arg8 harg8 arg9 harg9 arg10 harg10 arg11 harg11 arg12 harg12 arg13 harg13 arg14 harg14 hc2 X3 X4 X5 X6] : Fin 8 → List (View.Piece (Elt F) S16x144x256 .f32)) = fun h : Fin 8 => T13 arg13.view (finE i hc2 arg6.view X6 arg14.view arg14.view.junk ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.2 ++ first14 arg3 harg3 arg5 X3 X5) (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).1) ((loopSt c i arg3 harg3 arg4 harg4 arg5 harg5 arg6 harg6 arg7 harg7 arg8 harg8 arg9 harg9 arg10 harg10 arg11 harg11 arg12 harg12 arg13 harg13 arg14 harg14 X3 X5 X6 (arg14.view.writes (Elt F) arg14.view.junk (first14 arg3 harg3 arg5 X3 X5)) (nTrip i)).2.1 ++ zero13) (2 * h.val + 2) (by omega) := by
    funext h
    fin_cases h
    · exact tab_First_2 c i arg3 harg3 arg4 harg4 arg5 harg5 arg6 harg6 arg7 harg7 arg8 harg8 arg9 harg9 arg10 harg10 arg11 harg11 arg12 harg12 arg13 harg13 arg14 harg14 X3 X4 X5 X6 hc2
    · exact tab_First_4 c i arg3 harg3 arg4 harg4 arg5 harg5 arg6 harg6 arg7 harg7 arg8 harg8 arg9 harg9 arg10 harg10 arg11 harg11 arg12 harg12 arg13 harg13 arg14 harg14 X3 X4 X5 X6 hc2
    · exact tab_First_6 c i arg3 harg3 arg4 harg4 arg5 harg5 arg6 harg6 arg7 harg7 arg8 harg8 arg9 harg9 arg10 harg10 arg11 harg11 arg12 harg12 arg13 harg13 arg14 harg14 X3 X4 X5 X6 hc2
    · exact tab_First_8 c i arg3 harg3 arg4 harg4 arg5 harg5 arg6 harg6 arg7 harg7 arg8 harg8 arg9 harg9 arg10 harg10 arg11 harg11 arg12 harg12 arg13 harg13 arg14 harg14 X3 X4 X5 X6 hc2
    · exact tab_First_10 c i arg3 harg3 arg4 harg4 arg5 harg5 arg6 harg6 arg7 harg7 arg8 harg8 arg9 harg9 arg10 harg10 arg11 harg11 arg12 harg12 arg13 harg13 arg14 harg14 X3 X4 X5 X6 hc2
    · exact tab_First_12 c i arg3 harg3 arg4 harg4 arg5 harg5 arg6 harg6 arg7 harg7 arg8 harg8 arg9 harg9 arg10 harg10 arg11 harg11 arg12 harg12 arg13 harg13 arg14 harg14 X3 X4 X5 X6 hc2
    · exact tab_First_14 c i arg3 harg3 arg4 harg4 arg5 harg5 arg6 harg6 arg7 harg7 arg8 harg8 arg9 harg9 arg10 harg10 arg11 harg11 arg12 harg12 arg13 harg13 arg14 harg14 X3 X4 X5 X6 hc2
    · exact tab_First_16 c i arg3 harg3 arg4 harg4 arg5 harg5 arg6 harg6 arg7 harg7 arg8 harg8 arg9 harg9 arg10 harg10 arg11 harg11 arg12 harg12 arg13 harg13 arg14 harg14 X3 X4 X5 X6 hc2
  rw [← e]
  delta runFirst
  rfl

end Cert.Proof.Attn

end
-- ==== Proof.AttnOutEven.lean ====
/-
  The attention body's stores at a later even query block.
-/
module
public import proofs.«01_k».proof.Proof.AttnRunEven
public import proofs.«01_k».proof.Proof.AttnFinish

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f13 : BufTy.Contents (Elt F) arg13.view.ty) (f14 : BufTy.Contents (Elt F) arg14.view.ty)

set_option maxHeartbeats 4000000 in
/-- The scores left. -/
theorem sc_Even (hc1 : ¬ k0_cond1 i = 1#1) (hc2 : k0_cond2 i = 1#1) (hc3 : ¬ k0_cond3 i = 1#1) : (runEven (F := F) c i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 X9 X10 X11).2.2.1 f13 f14
      = arg14.view.writes (Elt F) f14 (T14 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 16 le_rfl) := by
  delta runEven
  rfl

theorem tab_Even_1 (hc2 : k0_cond2 i = 1#1) : runEven.sl.H13_1_1 (F := F) c i arg3 harg3 arg4 harg4 arg5 harg5 arg6 harg6 arg7 harg7 arg8 harg8 arg9 harg9 arg10 harg10 arg11 harg11 arg12 harg12 arg13 harg13 arg14 harg14 hc2 X3 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 1 (by omega) :=
  T13_step _ _ _ 0 _ (T := ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13)) (rfl) rfl

theorem tab_Even_2 (hc2 : k0_cond2 i = 1#1) : runEven.sl.H13_2 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 2 (by omega) :=
  T13_step _ _ _ 1 _ (tab_Even_1 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_3 (hc2 : k0_cond2 i = 1#1) : runEven.sl.H13_3 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 3 (by omega) :=
  T13_step _ _ _ 2 _ (tab_Even_2 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_4 (hc2 : k0_cond2 i = 1#1) : runEven.sl.H13_4 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 4 (by omega) :=
  T13_step _ _ _ 3 _ (tab_Even_3 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_5 (hc2 : k0_cond2 i = 1#1) : runEven.sl.H13_5 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 5 (by omega) :=
  T13_step _ _ _ 4 _ (tab_Even_4 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_6 (hc2 : k0_cond2 i = 1#1) : runEven.sl.H13_6 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 6 (by omega) :=
  T13_step _ _ _ 5 _ (tab_Even_5 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_7 (hc2 : k0_cond2 i = 1#1) : runEven.sl.H13_7 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 7 (by omega) :=
  T13_step _ _ _ 6 _ (tab_Even_6 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_8 (hc2 : k0_cond2 i = 1#1) : runEven.sl.H13_8 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 8 (by omega) :=
  T13_step _ _ _ 7 _ (tab_Even_7 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_9 (hc2 : k0_cond2 i = 1#1) : runEven.sl.H13_9 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 9 (by omega) :=
  T13_step _ _ _ 8 _ (tab_Even_8 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_10 (hc2 : k0_cond2 i = 1#1) : runEven.sl.H13_10 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 10 (by omega) :=
  T13_step _ _ _ 9 _ (tab_Even_9 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_11 (hc2 : k0_cond2 i = 1#1) : runEven.sl.H13_11 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 11 (by omega) :=
  T13_step _ _ _ 10 _ (tab_Even_10 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_12 (hc2 : k0_cond2 i = 1#1) : runEven.sl.H13_12 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 12 (by omega) :=
  T13_step _ _ _ 11 _ (tab_Even_11 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_13 (hc2 : k0_cond2 i = 1#1) : runEven.sl.H13_13 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 13 (by omega) :=
  T13_step _ _ _ 12 _ (tab_Even_12 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_14 (hc2 : k0_cond2 i = 1#1) : runEven.sl.H13_14 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 14 (by omega) :=
  T13_step _ _ _ 13 _ (tab_Even_13 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_15 (hc2 : k0_cond2 i = 1#1) : runEven.sl.H13_15 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 15 (by omega) :=
  T13_step _ _ _ 14 _ (tab_Even_14 c i arg3 harg3 arg4 harg4 arg5 harg5 arg6 harg6 arg7 harg7 arg8 harg8 arg9 harg9 arg10 harg10 arg11 harg11 arg12 harg12 arg13 harg13 arg14 harg14 X3 X4 X5 X6 f14 hc2) rfl

theorem tab_Even_16 (hc2 : k0_cond2 i = 1#1) : runEven.sl.H13_16 (F := F) c i arg3 harg3 arg4 harg4 arg5 harg5 arg6 harg6 arg7 harg7 arg8 harg8 arg9 harg9 arg10 harg10 arg11 harg11 arg12 harg12 arg13 harg13 arg14 harg14 hc2 X3 X4 X5 X6 f14 = T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 16 (by omega) :=
  T13_step _ _ _ 15 _ (tab_Even_15 c i arg3 harg3 arg4 harg4 arg5 harg5 arg6 harg6 arg7 harg7 arg8 harg8 arg9 harg9 arg10 harg10 arg11 harg11 arg12 harg12 arg13 harg13 arg14 harg14 X3 X4 X5 X6 f14 hc2) rfl

set_option maxHeartbeats 4000000 in
/-- The output stores. -/
theorem out_Even (hc1 : ¬ k0_cond1 i = 1#1) (hc2 : k0_cond2 i = 1#1) (hc3 : ¬ k0_cond3 i = 1#1) : (runEven (F := F) c i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 X9 X10 X11).1 f13 f14
      = T12 arg13.view (fun h => T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) (2 * h.val + 2) (by omega)) (lamOf arg7.view arg8.view arg9.view arg10.view X7 X8 X9 X10) (nwOf arg11.view X11) := by
  have e : (![runEven.sl.H13_2 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_4 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_6 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_8 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_10 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_12 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_14 (F := F) c i arg3 harg3 arg4 harg4 arg5 harg5 arg6 harg6 arg7 harg7 arg8 harg8 arg9 harg9 arg10 harg10 arg11 harg11 arg12 harg12 arg13 harg13 arg14 harg14 hc2 X3 X4 X5 X6 f14, runEven.sl.H13_16 (F := F) c i arg3 harg3 arg4 harg4 arg5 harg5 arg6 harg6 arg7 harg7 arg8 harg8 arg9 harg9 arg10 harg10 arg11 harg11 arg12 harg12 arg13 harg13 arg14 harg14 hc2 X3 X4 X5 X6 f14] : Fin 8 → List (View.Piece (Elt F) S16x144x256 .f32)) = fun h : Fin 8 => T13 arg13.view (finE i hc2 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) (2 * h.val + 2) (by omega) := by
    funext h
    fin_cases h
    · exact tab_Even_2 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_4 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_6 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_8 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_10 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_12 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_14 c i arg3 harg3 arg4 harg4 arg5 harg5 arg6 harg6 arg7 harg7 arg8 harg8 arg9 harg9 arg10 harg10 arg11 harg11 arg12 harg12 arg13 harg13 arg14 harg14 X3 X4 X5 X6 f14 hc2
    · exact tab_Even_16 c i arg3 harg3 arg4 harg4 arg5 harg5 arg6 harg6 arg7 harg7 arg8 harg8 arg9 harg9 arg10 harg10 arg11 harg11 arg12 harg12 arg13 harg13 arg14 harg14 X3 X4 X5 X6 f14 hc2
  rw [← e]
  delta runEven
  rfl

end Cert.Proof.Attn

end
-- ==== Proof.AttnOutOdd.lean ====
/-
  The attention body's stores at an odd query block.
-/
module
public import proofs.«01_k».proof.Proof.AttnRunOdd
public import proofs.«01_k».proof.Proof.AttnFinish

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f13 : BufTy.Contents (Elt F) arg13.view.ty) (f14 : BufTy.Contents (Elt F) arg14.view.ty)

set_option maxHeartbeats 4000000 in
/-- The scores left. -/
theorem sc_Odd (hc1 : ¬ k0_cond1 i = 1#1) (hc2 : ¬ k0_cond2 i = 1#1) (hc3 : k0_cond3 i = 1#1) : (runOdd (F := F) c i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 X9 X10 X11).2.2.1 f13 f14
      = arg14.view.writes (Elt F) f14 (T14 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 16 le_rfl) := by
  delta runOdd
  rfl

theorem tab_Odd_1 (hc3 : k0_cond3 i = 1#1) : runOdd.sl.H13_1_1 (F := F) c i arg3 harg3 arg4 harg4 arg5 harg5 arg6 harg6 arg7 harg7 arg8 harg8 arg9 harg9 arg10 harg10 arg11 harg11 arg12 harg12 arg13 harg13 arg14 harg14 hc3 X3 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 1 (by omega) :=
  T13_step _ _ _ 0 _ (T := ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13)) (rfl) rfl

theorem tab_Odd_2 (hc3 : k0_cond3 i = 1#1) : runOdd.sl.H13_2 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 2 (by omega) :=
  T13_step _ _ _ 1 _ (tab_Odd_1 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_3 (hc3 : k0_cond3 i = 1#1) : runOdd.sl.H13_3 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 3 (by omega) :=
  T13_step _ _ _ 2 _ (tab_Odd_2 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_4 (hc3 : k0_cond3 i = 1#1) : runOdd.sl.H13_4 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 4 (by omega) :=
  T13_step _ _ _ 3 _ (tab_Odd_3 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_5 (hc3 : k0_cond3 i = 1#1) : runOdd.sl.H13_5 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 5 (by omega) :=
  T13_step _ _ _ 4 _ (tab_Odd_4 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_6 (hc3 : k0_cond3 i = 1#1) : runOdd.sl.H13_6 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 6 (by omega) :=
  T13_step _ _ _ 5 _ (tab_Odd_5 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_7 (hc3 : k0_cond3 i = 1#1) : runOdd.sl.H13_7 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 7 (by omega) :=
  T13_step _ _ _ 6 _ (tab_Odd_6 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_8 (hc3 : k0_cond3 i = 1#1) : runOdd.sl.H13_8 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 8 (by omega) :=
  T13_step _ _ _ 7 _ (tab_Odd_7 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_9 (hc3 : k0_cond3 i = 1#1) : runOdd.sl.H13_9 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 9 (by omega) :=
  T13_step _ _ _ 8 _ (tab_Odd_8 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_10 (hc3 : k0_cond3 i = 1#1) : runOdd.sl.H13_10 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 10 (by omega) :=
  T13_step _ _ _ 9 _ (tab_Odd_9 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_11 (hc3 : k0_cond3 i = 1#1) : runOdd.sl.H13_11 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 11 (by omega) :=
  T13_step _ _ _ 10 _ (tab_Odd_10 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_12 (hc3 : k0_cond3 i = 1#1) : runOdd.sl.H13_12 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 12 (by omega) :=
  T13_step _ _ _ 11 _ (tab_Odd_11 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_13 (hc3 : k0_cond3 i = 1#1) : runOdd.sl.H13_13 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 13 (by omega) :=
  T13_step _ _ _ 12 _ (tab_Odd_12 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_14 (hc3 : k0_cond3 i = 1#1) : runOdd.sl.H13_14 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 14 (by omega) :=
  T13_step _ _ _ 13 _ (tab_Odd_13 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_15 (hc3 : k0_cond3 i = 1#1) : runOdd.sl.H13_15 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 15 (by omega) :=
  T13_step _ _ _ 14 _ (tab_Odd_14 c i arg3 harg3 arg4 harg4 arg5 harg5 arg6 harg6 arg7 harg7 arg8 harg8 arg9 harg9 arg10 harg10 arg11 harg11 arg12 harg12 arg13 harg13 arg14 harg14 X3 X4 X5 X6 f14 hc3) rfl

theorem tab_Odd_16 (hc3 : k0_cond3 i = 1#1) : runOdd.sl.H13_16 (F := F) c i arg3 harg3 arg4 harg4 arg5 harg5 arg6 harg6 arg7 harg7 arg8 harg8 arg9 harg9 arg10 harg10 arg11 harg11 arg12 harg12 arg13 harg13 arg14 harg14 hc3 X3 X4 X5 X6 f14 = T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) 16 (by omega) :=
  T13_step _ _ _ 15 _ (tab_Odd_15 c i arg3 harg3 arg4 harg4 arg5 harg5 arg6 harg6 arg7 harg7 arg8 harg8 arg9 harg9 arg10 harg10 arg11 harg11 arg12 harg12 arg13 harg13 arg14 harg14 X3 X4 X5 X6 f14 hc3) rfl

set_option maxHeartbeats 4000000 in
/-- The output stores. -/
theorem out_Odd (hc1 : ¬ k0_cond1 i = 1#1) (hc2 : ¬ k0_cond2 i = 1#1) (hc3 : k0_cond3 i = 1#1) : (runOdd (F := F) c i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 X9 X10 X11).1 f13 f14
      = T12 arg13.view (fun h => T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) (2 * h.val + 2) (by omega)) (lamOf arg7.view arg8.view arg9.view arg10.view X7 X8 X9 X10) (nwOf arg11.view X11) := by
  have e : (![runOdd.sl.H13_2 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_4 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_6 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_8 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_10 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_12 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_14 (F := F) c i arg3 harg3 arg4 harg4 arg5 harg5 arg6 harg6 arg7 harg7 arg8 harg8 arg9 harg9 arg10 harg10 arg11 harg11 arg12 harg12 arg13 harg13 arg14 harg14 hc3 X3 X4 X5 X6 f14, runOdd.sl.H13_16 (F := F) c i arg3 harg3 arg4 harg4 arg5 harg5 arg6 harg6 arg7 harg7 arg8 harg8 arg9 harg9 arg10 harg10 arg11 harg11 arg12 harg12 arg13 harg13 arg14 harg14 hc3 X3 X4 X5 X6 f14] : Fin 8 → List (View.Piece (Elt F) S16x144x256 .f32)) = fun h : Fin 8 => T13 arg13.view (finO i hc3 arg6.view X6 arg14.view f14 (loopSt c i arg3 harg3 arg4 harg4 arg5 harg5 arg6 harg6 arg7 harg7 arg8 harg8 arg9 harg9 arg10 harg10 arg11 harg11 arg12 harg12 arg13 harg13 arg14 harg14 X3 X5 X6 f14 (nTrip i)).2.2 (qAll arg4.view X4) (kFirst arg5.view X5) (loopSt c i arg3 harg3 arg4 harg4 arg5 harg5 arg6 harg6 arg7 harg7 arg8 harg8 arg9 harg9 arg10 harg10 arg11 harg11 arg12 harg12 arg13 harg13 arg14 harg14 X3 X5 X6 f14 (nTrip i)).1) ((loopSt c i arg3 harg3 arg4 harg4 arg5 harg5 arg6 harg6 arg7 harg7 arg8 harg8 arg9 harg9 arg10 harg10 arg11 harg11 arg12 harg12 arg13 harg13 arg14 harg14 X3 X5 X6 f14 (nTrip i)).2.1 ++ zero13) (2 * h.val + 2) (by omega) := by
    funext h
    fin_cases h
    · exact tab_Odd_2 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_4 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_6 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_8 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_10 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_12 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_14 c i arg3 harg3 arg4 harg4 arg5 harg5 arg6 harg6 arg7 harg7 arg8 harg8 arg9 harg9 arg10 harg10 arg11 harg11 arg12 harg12 arg13 harg13 arg14 harg14 X3 X4 X5 X6 f14 hc3
    · exact tab_Odd_16 c i arg3 harg3 arg4 harg4 arg5 harg5 arg6 harg6 arg7 harg7 arg8 harg8 arg9 harg9 arg10 harg10 arg11 harg11 arg12 harg12 arg13 harg13 arg14 harg14 X3 X4 X5 X6 f14 hc3
  rw [← e]
  delta runOdd
  rfl

end Cert.Proof.Attn

end
-- ==== Proof.AttnPointOut.lean ====
/-
  The attention body at a grid point: the output block and the scores it leaves, from what its windows and the scores' scratch hold.
-/
module
public import proofs.«01_k».proof.Proof.AttnPoint
public import proofs.«01_k».proof.Proof.AttnRun
public import proofs.«01_k».proof.Proof.AttnOutFirst
public import proofs.«01_k».proof.Proof.AttnOutEven
public import proofs.«01_k».proof.Proof.AttnOutOdd

@[expose] public section

set_option maxRecDepth 16384
set_option maxHeartbeats 1000000

noncomputable section

namespace Cert.Proof.Attn

open Cert.KernelIdeal Cert.KernelIdeal.Gen
open Idealize.ShloMosaic Idealize.ShloMosaic.TcCoe Idealize.ShloMosaic.Tactic

section

variable (c : Dev nD) (t : Fin cfg0.N) (arg3 : Memref sig .tc .vmem S1x1x8x128x256 .bf16) (harg3 : arg3.IsWhole) (arg4 : Memref sig .tc .vmem S1x1x8x128x256 .bf16) (harg4 : arg4.IsWhole) (arg5 : Memref sig .tc .vmem S1x4096x1024 .bf16) (harg5 : arg5.IsWhole) (arg6 : Memref sig .tc .vmem S1x16x8x128x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x256x1024 .bf16) (harg12 : arg12.IsWhole) (arg13 : Memref sig .tc .vmem S16x144x256 .f32) (harg13 : arg13.IsWhole) (arg14 : Memref sig .tc .vmem S16x512x256 .f32) (harg14 : arg14.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (f13 : BufTy.Contents (Elt Ideal) arg13.view.ty) (f14 : BufTy.Contents (Elt Ideal) arg14.view.ty)
  {qb : Fin 8 → Fin 128 → Fin 256 → ℝ} {kb : ℕ → Fin 8 → Fin 128 → ℝ} {vv : ℕ → Fin 8 → Fin 128 → ℝ}

/-- The scores the body leaves: the next query block's against the first keys. -/
theorem runAt_sc (ch : Fin 16) : row14 arg14.view ((runAt (F := Ideal) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).2.2.1 f13 f14) ch = scores (qAll arg4.view X4 ch) (kFirst arg5.view X5 ch) := by
  by_cases h1 : k0_cond1 (grid0.coords t) = 1#1
  · rw [runAt_first (h1 := h1), sc_First, row14_T14, if_pos ch.2]
  · by_cases h2 : k0_cond2 (grid0.coords t) = 1#1
    · rw [runAt_even (h1 := h1) (h2 := h2), sc_Even, row14_T14, if_pos ch.2]
    · rw [runAt_odd (h1 := h1) (h2 := h2), sc_Odd, row14_T14, if_pos ch.2]

/-- The scores an opening query block issues itself. -/
theorem first_real (R : Reads qb kb vv arg3.view X3 arg5.view X5 arg6.view X6) (ch : Fin 16) (j : Fin 512) (l : Fin 256) :
    row14 arg14.view (arg14.view.writes (Elt Ideal) arg14.view.junk (first14 arg3 harg3 arg5 X3 X5)) ch (ix3 0 j l) = ((sg qb kb ch l j.val : ℝ) : EReal) := by
  unfold first14
  rw [row14_T14, if_pos ch.2]
  exact scores_real _ _ j l (fun d => kb j.val (hd ch) d) _ (fun d => by rw [kFirst_at, R.k]) (fun d => qAll_real _ _ _ R.q ch d l)

/-- The output block, at an index. -/
theorem runAt_out (R : Reads qb kb vv arg3.view X3 arg5.view X5 arg6.view X6)
    (h0 : t.val % 16 ≠ 0 → ∀ (ch : Fin 16) (j : Fin 512) (l : Fin 256), row14 arg14.view f14 ch (ix3 0 j l) = ((sg qb kb ch l j.val : ℝ) : EReal))
    (h : Fin 8) (l : Fin 256) (e : Fin 128) :
    View.canon ((runAt (F := Ideal) c t arg3 harg3 arg4 harg4 arg5 harg5 arg6 harg6 arg7 harg7 arg8 harg8 arg9 harg9 arg10 harg10 arg11 harg11 arg12 harg12 arg13 harg13 arg14 harg14 X3 X4 X5 X6 X7 X8 X9 X10 X11).1 f13 f14) (ix3 0 l ⟨128 * h.val + e.val, by omega⟩)
      = outAt qb kb vv (lamOf arg7.view arg8.view arg9.view arg10.view X7 X8 X9 X10 (ix2 0 0)) (fun e => nwOf arg11.view X11 (ix2 e 0)) (256 * (t.val % 16) + l.val) h l e := by
  by_cases h1 : k0_cond1 (grid0.coords t) = 1#1
  · have h2 := cond_12 t h1
    rw [runAt_first (h1 := h1), out_First]
    exact point c t arg3 harg3 arg4 harg4 arg5 harg5 arg6 harg6 arg7 harg7 arg8 harg8 arg9 harg9 arg10 harg10 arg11 harg11 arg12 harg12 arg13 harg13 arg14 harg14 X3 X5 X6 (arg14.view.writes (Elt Ideal) arg14.view.junk (first14 arg3 harg3 arg5 X3 X5)) _ (fun l => 256 * (t.val % 16) + l.val) _ _
      (fun ch l => finE_rep c t arg3 harg3 arg4 harg4 arg5 harg5 arg6 harg6 arg7 harg7 arg8 harg8 arg9 harg9 arg10 harg10 arg11 harg11 arg12 harg12 arg13 harg13 arg14 harg14 X3 X5 X6 (arg14.view.writes (Elt Ideal) arg14.view.junk (first14 arg3 harg3 arg5 X3 X5)) R (by intro ch j l; apply first_real; exact R) ((cond_2 t).1 h2) h2 _ _ (fun ch => by rw [View.writes_append]; rfl) _ _ ch l) h l e
  · have h0' := h0 fun e => h1 ((cond_1 t).2 e)
    by_cases h2 : k0_cond2 (grid0.coords t) = 1#1
    · rw [runAt_even (h1 := h1) (h2 := h2), out_Even]
      exact point c t arg3 harg3 arg4 harg4 arg5 harg5 arg6 harg6 arg7 harg7 arg8 harg8 arg9 harg9 arg10 harg10 arg11 harg11 arg12 harg12 arg13 harg13 arg14 harg14 X3 X5 X6 f14 _ (fun l => 256 * (t.val % 16) + l.val) _ _
        (fun ch l => finE_rep c t arg3 harg3 arg4 harg4 arg5 harg5 arg6 harg6 arg7 harg7 arg8 harg8 arg9 harg9 arg10 harg10 arg11 harg11 arg12 harg12 arg13 harg13 arg14 harg14 X3 X5 X6 f14 R h0' ((cond_2 t).1 h2) h2 _ _ (fun ch => rfl) _ _ ch l) h l e
    · have ho : t.val % 2 = 1 := by
        have : t.val % 2 ≠ 0 := fun e => h2 ((cond_2 t).2 e)
        omega
      rw [runAt_odd (h1 := h1) (h2 := h2), out_Odd]
      exact point c t arg3 harg3 arg4 harg4 arg5 harg5 arg6 harg6 arg7 harg7 arg8 harg8 arg9 harg9 arg10 harg10 arg11 harg11 arg12 harg12 arg13 harg13 arg14 harg14 X3 X5 X6 f14 _ (fun l => 256 * (t.val % 16) + l.val) _ _
        (fun ch l => finO_rep c t arg3 harg3 arg4 harg4 arg5 harg5 arg6 harg6 arg7 harg7 arg8 harg8 arg9 harg9 arg10 harg10 arg11 harg11 arg12 harg12 arg13 harg13 arg14 harg14 X3 X5 X6 f14 R h0' ho (cond_3 t h2) _ _ (fun ch => rfl) _ _ ch l) h l e

end

end Cert.Proof.Attn

end
-- ==== Proof.AttnRead.lean ====
/-
  What the attention kernel's windows hold at a grid point, from the arguments.
-/
module
public import proofs.«01_k».proof.Proof.AttnFrame
public import proofs.«01_k».proof.Proof.AttnIndex

@[expose] public section

set_option maxRecDepth 16384
set_option maxHeartbeats 2000000

noncomputable section

namespace Cert.Proof.Attn

open Cert.KernelIdeal Cert.KernelIdeal.Gen
open Idealize.ShloMosaic Idealize.ShloMosaic.TcCoe Idealize.ShloMosaic.Tactic Idealize.SL.Sem

/-- The windows' block indices at every grid point. -/
theorem idx : ∀ t : Fin cfg0.N, win0_0.index t = ![t.val / 16, t.val % 16, 0, 0, 0] ∧ win0_1.index t = ![t.val / 16, min (t.val % 16 + 1) 15, 0, 0, 0]
    ∧ win0_2.index t = ![t.val / 16, 0, 0] ∧ win0_3.index t = ![t.val / 16, 0, 0, 0, 0] ∧ win0_4.index t = ![0, 0] ∧ win0_5.index t = ![0, 0]
    ∧ win0_6.index t = ![0, 0] ∧ win0_7.index t = ![0, 0] ∧ win0_8.index t = ![0, 0] ∧ win0_9.index t = ![t.val / 16, t.val % 16, 0] ∧ t.val < 256 :=
  (by decide +kernel : ∀ t : Fin grid0.N, _)

variable (m : (ℓ : Loc nD τ sig) → Buf (Elt Ideal) ℓ) (c : Dev nD) (t : Fin cfg0.N) (ht : t.val < 256)

/-- The kernel's scale of the queries. -/
def qScale : EReal := Ideal.div (Ideal.ofBits .f32 0x3E000000#32) (Ideal.log (Ideal.ofBits .f32 0x40000000#32))

theorem qScale_eq : qScale = ((1 / 8 / Real.log 2 : ℝ) : EReal) := by
  have e8 : Ideal.ofBits .f32 0x3E000000#32 = ((1 / 8 : ℝ) : EReal) := by
    simp [Ideal.ofBits, Ideal.ieee]
    norm_num
    rw [← EReal.coe_mul]
    norm_num
  have e2 : Ideal.ofBits .f32 0x40000000#32 = ((2 : ℝ) : EReal) := by
    simp [Ideal.ofBits, Ideal.ieee]
    norm_num
    rw [← EReal.coe_mul]
    norm_num
  have hl : Real.log 2 ≠ 0 := (Real.log_pos one_lt_two).ne'
  have hne : ((Real.log 2 : ℝ) : EReal) ≠ 0 := by exact_mod_cast hl
  unfold qScale
  rw [e8, e2, Ideal.log_coe, if_neg (by norm_num), Ideal.div, if_neg hne, ← EReal.coe_inv, ← EReal.coe_mul, ← div_eq_mul_inv]

theorem blk0 (h : Fin 8) (d : Fin 128) (l : Fin 256) : iblk m c 0 t (ix5 0 0 h d l)
    = HMul.hMul (α := EReal) (β := EReal) (γ := EReal) (m ((c : Thread nD τ).loc main_arg0) (ix5 ⟨t.val / 16, by omega⟩ ⟨256 * (t.val % 16) + l.val, by omega⟩ h ⟨d.val / 64, by omega⟩ ⟨d.val % 64, by omega⟩) ) qScale := by
  unfold iblk qScale; entry_read; blk_simp; pointwise []; congr 1; blk_ext [idx t]

theorem blk1 (h : Fin 8) (d : Fin 128) (l : Fin 256) : iblk m c 1 t (ix5 0 0 h d l)
    = HMul.hMul (α := EReal) (β := EReal) (γ := EReal) (m ((c : Thread nD τ).loc main_arg0) (ix5 ⟨t.val / 16, by omega⟩ ⟨256 * min (t.val % 16 + 1) 15 + l.val, by omega⟩ h ⟨d.val / 64, by omega⟩ ⟨d.val % 64, by omega⟩) ) qScale := by
  unfold iblk qScale; entry_read; blk_simp; pointwise []; congr 1; blk_ext [idx t]

theorem blk2 (g : Fin 4096) (h : Fin 8) (d : Fin 128) : iblk m c 2 t (ix3 0 g ⟨128 * h.val + d.val, by omega⟩)
    = m ((c : Thread nD τ).loc main_arg1) (ix5 ⟨t.val / 16, by omega⟩ g h ⟨d.val / 64, by omega⟩ ⟨d.val % 64, by omega⟩) := by
  unfold iblk; entry_read; blk_simp; pointwise []; blk_ext [idx t]

theorem blk3 (n : Fin 16) (h : Fin 8) (e : Fin 128) (p : Fin 256) : iblk m c 3 t (ix5 0 n h e p)
    = m ((c : Thread nD τ).loc main_arg2) (ix4 ⟨t.val / 16, by omega⟩ ⟨256 * n.val + p.val, by omega⟩ h e) := by
  unfold iblk; entry_read; blk_simp; pointwise []; blk_ext [idx t]

theorem blk4 (d : Fin 64) : iblk m c 4 t (ix2 0 d) = m ((c : Thread nD τ).loc main_arg3) (ix1 d) := by
  unfold iblk; entry_read; blk_simp; pointwise []; blk_ext [idx t]

theorem blk5 (d : Fin 64) : iblk m c 5 t (ix2 0 d) = m ((c : Thread nD τ).loc main_arg4) (ix1 d) := by
  unfold iblk; entry_read; blk_simp; pointwise []; blk_ext [idx t]

theorem blk6 (d : Fin 64) : iblk m c 6 t (ix2 0 d) = m ((c : Thread nD τ).loc main_arg5) (ix1 d) := by
  unfold iblk; entry_read; blk_simp; pointwise []; blk_ext [idx t]

theorem blk7 (d : Fin 64) : iblk m c 7 t (ix2 0 d) = m ((c : Thread nD τ).loc main_arg6) (ix1 d) := by
  unfold iblk; entry_read; blk_simp; pointwise []; blk_ext [idx t]

theorem blk8 (e : Fin 128) : iblk m c 8 t (ix2 e 0) = m ((c : Thread nD τ).loc main_arg7) (ix1 e) := by
  unfold iblk; entry_read; blk_simp; pointwise []; blk_ext [idx t]

end Cert.Proof.Attn

end
-- ==== Proof.AttnRef.lean ====
/-
  What the attention reference computes, at an index, on real arguments.
-/
module
public import proofs.«01_k».proof.Proof.AttnIndex
public import proofs.«01_k».proof.Proof.AttnMath
public import proofs.«01_k».proof.Proof.Gen.ReferenceIdeal.Run

@[expose] public section

set_option maxRecDepth 16384
set_option maxHeartbeats 1000000

noncomputable section

namespace Cert.Proof.Attn

section
open Cert.ReferenceIdeal Cert.ReferenceIdeal.Gen
open Idealize.ShloMosaic Idealize.ShloMosaic.TcCoe Idealize.ShloMosaic.Tactic

/-- The weight of the second softmax. -/
def refLam (l1 l2 l3 l4 : FVec Ideal S64 .f32) : FVec Ideal S_ .f32 :=
  addf (subf (Host.exp (Host.reduceAdd (mulf l1 l2) (constant S_ .f32 0x00000000#32) reducesTo_S64_S_d0 h_S_))
    (Host.exp (Host.reduceAdd (mulf l3 l4) (constant S_ .f32 0x00000000#32) reducesTo_S64_S_d0 h_S_))) (constant S_ .f32 0x3E4CCCCD#32)

/-- The masked scores. -/
def refScore (dq dk : FVec Ideal S16x4096x8x2x64 .f32) : FVec Ideal S16x8x2x4096x4096 .f32 :=
  select (broadcastInDim S16x8x2x4096x4096 ![3, 4] bcast_S4096x4096_S16x8x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (Host.dotGeneral dot_S16x4096x8x2x64_S16x4096x8x2x64_S16x8x2x4096x4096_4_4_1_1_023_023 none dq dk) (broadcastInDim S16x8x2x4096x4096 ![] bcast_S_S16x8x2x4096x4096 (constant S_ .f32 0x3E000000#32)))
    (broadcastInDim S16x8x2x4096x4096 ![] bcast_S_S16x8x2x4096x4096 (id (constant S_ .f32 0xFF800000#32)))

/-- A row's greatest score. -/
def refMax (s : FVec Ideal S16x8x2x4096x4096 .f32) : FVec Ideal S16x8x2x4096 .f32 :=
  Host.reduce FloatOps.maximumf s (constant S_ .f32 0xFF800000#32) reducesTo_S16x8x2x4096x4096_S16x8x2x4096_d4 h_S_

/-- The exponentials of the scores below their row's maximum. -/
def refExpOf (s : FVec Ideal S16x8x2x4096x4096 .f32) (mx : FVec Ideal S16x8x2x4096 .f32) : FVec Ideal S16x8x2x4096x4096 .f32 :=
  Host.exp (subf s (broadcastInDim S16x8x2x4096x4096 ![0, 1, 2, 3, 4] bcast_S16x8x2x4096x1_S16x8x2x4096x4096_0_1_2_3_4 (broadcastInDim S16x8x2x4096x1 ![0, 1, 2, 3] bcast_S16x8x2x4096_S16x8x2x4096x1_0_1_2_3
    (maximumf (broadcastInDim S16x8x2x4096 ![] bcast_S_S16x8x2x4096 (constant S_ .f32 0xFF800000#32)) mx))))

/-- The softmax. -/
def refSoft (x : FVec Ideal S16x8x2x4096x4096 .f32) : FVec Ideal S16x8x2x4096x4096 .f32 :=
  Host.divf x (broadcastInDim S16x8x2x4096x4096 ![0, 1, 2, 3, 4] bcast_S16x8x2x4096x1_S16x8x2x4096x4096_0_1_2_3_4 (broadcastInDim S16x8x2x4096x1 ![0, 1, 2, 3] bcast_S16x8x2x4096_S16x8x2x4096x1_0_1_2_3
    (Host.reduceAdd x (constant S_ .f32 0x00000000#32) reducesTo_S16x8x2x4096x4096_S16x8x2x4096_d4 h_S_)))

/-- The difference of the two softmaxes. -/
def refDiff (p : FVec Ideal S16x8x2x4096x4096 .f32) (lam : FVec Ideal S_ .f32) : FVec Ideal S16x8x4096x4096 .f32 :=
  subf (shapeCast _ (extractStridedSlice S16x8x1x4096x4096 ![0, 0, 0, 0, 0] p slices_S16x8x2x4096x4096_S16x8x1x4096x4096_0_0_0_0_0) shapeCasts_S16x8x1x4096x4096_S16x8x4096x4096)
    (mulf (broadcastInDim S16x8x4096x4096 ![] bcast_S_S16x8x4096x4096 lam)
      (shapeCast _ (extractStridedSlice S16x8x1x4096x4096 ![0, 0, 1, 0, 0] p slices_S16x8x2x4096x4096_S16x8x1x4096x4096_0_0_1_0_0) shapeCasts_S16x8x1x4096x4096_S16x8x4096x4096))

/-- The weighted values. -/
def refOut (dv : FVec Ideal S16x4096x8x128 .f32) (a : FVec Ideal S16x8x4096x4096 .f32) : FVec Ideal S16x4096x8x128 .f32 :=
  transpose S16x4096x8x128 [0, 3, 1, 2] (Host.dotGeneral dot_S16x4096x8x128_S16x8x4096x4096_S16x8x128x4096_1_3_3_2_02_01 none dv a) transposes_S16x8x128x4096_S16x4096x8x128_0_3_1_2

/-- The norm of heads, its gain and the fixed factor. -/
def refFin (o : FVec Ideal S16x4096x8x128 .f32) (nw : FVec Ideal S128 .f32) : FVec Ideal S16x4096x1024 .bf16 :=
  truncf .bf16 (shapeCast _ (mulf (mulf (mulf o (broadcastInDim S16x4096x8x128 ![0, 1, 2, 3] bcast_S16x4096x8x1_S16x4096x8x128_0_1_2_3 (Host.rsqrt (addf (Host.divf
      (broadcastInDim S16x4096x8x1 ![0, 1, 2] bcast_S16x4096x8_S16x4096x8x1_0_1_2 (Host.reduceAdd (mulf o o) (constant S_ .f32 0x00000000#32) reducesTo_S16x4096x8x128_S16x4096x8_d3 h_S_))
      (broadcastInDim S16x4096x8x1 ![] bcast_S_S16x4096x8x1 (constant S_ .f32 0x43000000#32))) (broadcastInDim S16x4096x8x1 ![] bcast_S_S16x4096x8x1 (constant S_ .f32 0x358637BD#32))))))
    (broadcastInDim S16x4096x8x128 ![0, 1, 2, 3] bcast_S1x1x1x128_S16x4096x8x128_0_1_2_3 (broadcastInDim S1x1x1x128 ![3] bcast_S128_S1x1x1x128_3 nw)))
    (broadcastInDim S16x4096x8x128 ![] bcast_S_S16x4096x8x128 (constant S_ .f32 0x3F4CCCCD#32))) shapeCasts_S16x4096x8x128_S16x4096x1024) bitsLt_bf16_f32

/-- The reference's whole term. -/
def refTerm (dq dk : FVec Ideal S16x4096x8x2x64 .f32) (dv : FVec Ideal S16x4096x8x128 .f32) (l1 l2 l3 l4 : FVec Ideal S64 .f32) (nw : FVec Ideal S128 .f32) : FVec Ideal S16x4096x1024 .bf16 :=
  refFin (refOut dv (refDiff (refSoft (refExpOf (refScore dq dk) (refMax (refScore dq dk)))) (refLam l1 l2 l3 l4))) nw

theorem refLam_at (l1 l2 l3 l4 : FVec Ideal S64 .f32) (i : S_.Idx) : refLam l1 l2 l3 l4 i
    = Ideal.exp (∑ k : Fin 64, l1 (ix1 k) * l2 (ix1 k)) - Ideal.exp (∑ k : Fin 64, l3 (ix1 k) * l4 (ix1 k)) + Ideal.ofBits .f32 0x3E4CCCCD#32 := by
  pointwise [refLam]

theorem refScore_at (dq dk : FVec Ideal S16x4096x8x2x64 .f32) (b : Fin 16) (h : Fin 8) (s : Fin 2) (q g : Fin 4096) : refScore dq dk (ix5 b h s q g)
    = if g.val ≤ q.val then (∑ d : Fin 64, dq (ix5 b q h s d) * dk (ix5 b g h s d)) * Ideal.ofBits .f32 0x3E000000#32 else ⊥ := by
  pointwise [refScore]
  rw [sel_sle (by omega) (by omega)]
  have e : Ideal.ofBits .f32 0xFF800000#32 = ⊥ := by simp [Ideal.ofBits, Ideal.ieee]
  rw [← e]
  rfl

theorem refExpOf_at (s : FVec Ideal S16x8x2x4096x4096 .f32) (mx : FVec Ideal S16x8x2x4096 .f32) (b : Fin 16) (h : Fin 8) (k : Fin 2) (q g : Fin 4096) : refExpOf s mx (ix5 b h k q g)
    = Ideal.exp (s (ix5 b h k q g) - max ⊥ (mx (ix4 b h k q))) := by
  pointwise [refExpOf]
  have e : Ideal.ofBits .f32 0xFF800000#32 = ⊥ := by simp [Ideal.ofBits, Ideal.ieee]
  rw [e]

/-- A maximum over scores is a score, and a number where one of them is. -/
theorem fold_score {ι : Type} (S : Finset ι) (x : ι → EReal) (hx : ∀ i, Score (x i)) :
    Score (S.fold (FloatOps.maximumf (F := Ideal) (φ := .f32)) (⊥ : EReal) x) ∧ ∀ i ∈ S, (∃ r : ℝ, x i = r) → ∃ r : ℝ, S.fold (FloatOps.maximumf (F := Ideal) (φ := .f32)) (⊥ : EReal) x = r := by
  classical
  have mx : ∀ a b : EReal, Score a → Score b → Score (max a b) := fun a b ha hb => by
    rcases max_choice a b with h | h <;> rw [h] <;> assumption
  have mr : ∀ a b : EReal, (∃ r : ℝ, a = r) → Score b → ∃ r : ℝ, max a b = r := fun a b ha hb => by
    obtain ⟨r, rfl⟩ := ha
    rcases hb with rfl | ⟨r', rfl⟩
    · exact ⟨r, max_eq_left bot_le⟩
    · rcases max_choice (r : EReal) (r' : EReal) with h | h <;> rw [h]
      · exact ⟨r, rfl⟩
      · exact ⟨r', rfl⟩
  induction S using Finset.induction_on with
  | empty => exact ⟨Or.inl rfl, fun i hi => absurd hi (Finset.notMem_empty i)⟩
  | insert a S ha ih =>
    rw [Finset.fold_insert ha]
    refine ⟨mx _ _ (hx a) ih.1, fun i hi hr => ?_⟩
    rcases Finset.mem_insert.1 hi with rfl | hi
    · exact mr _ _ hr ih.1
    · obtain ⟨r, h⟩ := ih.2 i hi hr
      rw [h]
      obtain ⟨r', h'⟩ := mr (r : EReal) (x a) ⟨r, rfl⟩ (hx a)
      exact ⟨r', (max_comm _ _).trans h'⟩

/-- A maximum along axes is a number where some score of its slice is. -/
theorem reduce_max_real {s t u : Shape} {axes : List (Fin s.rank)} (x : s.Idx → EReal) (init : u.Idx → EReal) (h : s.ReducesTo axes t) (hu : 0 < u.numel) (j : t.Idx)
    (hi : init (Shape.Idx.first hu) = ⊥) (hx : ∀ i, Score (x i)) (i : s.Idx) (hd : h.drop i = j) (hr : ∃ r : ℝ, x i = r) :
    ∃ r : ℝ, Host.reduce (FloatOps.maximumf (F := Ideal) (φ := .f32)) x init h hu j = (r : EReal) := by
  obtain ⟨r, h'⟩ := (fold_score (Finset.univ.filter fun i => h.drop i = j) x hx).2 i (Finset.mem_filter.2 ⟨Finset.mem_univ _, hd⟩) hr
  refine ⟨r, (Host.reduce_eq_fold _ x init h hu j).trans ?_⟩
  rw [hi]
  exact h'

theorem refMax_real (s : FVec Ideal S16x8x2x4096x4096 .f32) (hs : ∀ i, Score (s i)) (b : Fin 16) (h : Fin 8) (k : Fin 2) (q g : Fin 4096) (hr : ∃ r : ℝ, s (ix5 b h k q g) = r) :
    ∃ r : ℝ, refMax s (ix4 b h k q) = (r : EReal) := by
  unfold refMax
  refine reduce_max_real s _ _ _ _ ?_ hs (ix5 b h k q g) ?_ hr
  · show Ideal.ofBits .f32 0xFF800000#32 = ⊥
    simp [Ideal.ofBits, Ideal.ieee]
  · funext a
    fin_cases a <;> rfl

theorem refSoft_at (x : FVec Ideal S16x8x2x4096x4096 .f32) (b : Fin 16) (h : Fin 8) (k : Fin 2) (q g : Fin 4096) : refSoft x (ix5 b h k q g)
    = Ideal.div (x (ix5 b h k q g)) (∑ g' : Fin 4096, x (ix5 b h k q g')) := by
  pointwise [refSoft]

theorem refDiff_at (p : FVec Ideal S16x8x2x4096x4096 .f32) (lam : FVec Ideal S_ .f32) (b : Fin 16) (h : Fin 8) (q g : Fin 4096) : refDiff p lam (ix4 b h q g)
    = p (ix5 b h 0 q g) - lam ix0 * p (ix5 b h 1 q g) := by
  pointwise [refDiff]

theorem refOut_at (dv : FVec Ideal S16x4096x8x128 .f32) (a : FVec Ideal S16x8x4096x4096 .f32) (b : Fin 16) (q : Fin 4096) (h : Fin 8) (e : Fin 128) : refOut dv a (ix4 b q h e)
    = ∑ g : Fin 4096, dv (ix4 b g h e) * a (ix4 b h q g) := by
  pointwise [refOut]

theorem refFin_at (o : FVec Ideal S16x4096x8x128 .f32) (nw : FVec Ideal S128 .f32) (b : Fin 16) (q : Fin 4096) (j : Fin 1024) : refFin o nw (ix3 b q j)
    = normAt (fun e => o (ix4 b q ⟨j.val / 128, by omega⟩ e)) (nw (ix1 ⟨j.val % 128, by omega⟩)) ⟨j.val % 128, by omega⟩ := by
  pointwise [refFin]
  rfl

/-- A score of real queries and keys. -/
def sr (fq fk : S16x4096x8x2x64.Idx → ℝ) (b : Fin 16) (h : Fin 8) (k : Fin 2) (q g : Fin 4096) : ℝ :=
  (∑ d : Fin 64, fq (ix5 b q h k d) * fk (ix5 b g h k d)) * (1 / 8)

/-- Its causal weight. -/
def er (fq fk : S16x4096x8x2x64.Idx → ℝ) (b : Fin 16) (h : Fin 8) (k : Fin 2) (q g : Fin 4096) : ℝ :=
  if g.val ≤ q.val then Real.exp (sr fq fk b h k q g) else 0

/-- The weighted mean of the values. -/
def orr (fq fk : S16x4096x8x2x64.Idx → ℝ) (fv : S16x4096x8x128.Idx → ℝ) (b : Fin 16) (h : Fin 8) (k : Fin 2) (q : Fin 4096) (e : Fin 128) : ℝ :=
  (∑ g : Fin 4096, er fq fk b h k q g * fv (ix4 b g h e)) / ∑ g : Fin 4096, er fq fk b h k q g

theorem er_pos (fq fk : S16x4096x8x2x64.Idx → ℝ) (b : Fin 16) (h : Fin 8) (k : Fin 2) (q : Fin 4096) : 0 < ∑ g : Fin 4096, er fq fk b h k q g := by
  refine Finset.sum_pos' (fun g _ => ?_) ⟨q, Finset.mem_univ q, ?_⟩
  · unfold er; split
    · exact (Real.exp_pos _).le
    · exact le_rfl
  · unfold er; rw [if_pos le_rfl]; exact Real.exp_pos _

theorem div_real {a b : ℝ} (hb : b ≠ 0) : Ideal.div (a : EReal) (b : EReal) = ((a / b : ℝ) : EReal) := by
  have hne : (b : EReal) ≠ 0 := by exact_mod_cast hb
  rw [Ideal.div, if_neg hne, ← EReal.coe_inv, ← EReal.coe_mul, div_eq_mul_inv]

theorem eighth : Ideal.ofBits .f32 0x3E000000#32 = ((1 / 8 : ℝ) : EReal) := by
  simp [Ideal.ofBits, Ideal.ieee]
  norm_num
  rw [← EReal.coe_mul]
  norm_num

section

variable {dq dk : FVec Ideal S16x4096x8x2x64 .f32} {dv : FVec Ideal S16x4096x8x128 .f32} {fq fk : S16x4096x8x2x64.Idx → ℝ} {fv : S16x4096x8x128.Idx → ℝ}
  (hq : ∀ i, dq i = ((fq i : ℝ) : EReal)) (hk : ∀ i, dk i = ((fk i : ℝ) : EReal)) (hv : ∀ i, dv i = ((fv i : ℝ) : EReal))
include hq hk

theorem refScore_real (b : Fin 16) (h : Fin 8) (k : Fin 2) (q g : Fin 4096) : refScore dq dk (ix5 b h k q g)
    = if g.val ≤ q.val then ((sr fq fk b h k q g : ℝ) : EReal) else ⊥ := by
  rw [refScore_at, eighth]
  unfold sr
  rw [EReal.coe_mul, coe_sum]
  simp only [hq, hk, EReal.coe_mul]

theorem refScore_score (i : S16x8x2x4096x4096.Idx) : Score (refScore dq dk i) := by
  have : ∀ (b : Fin 16) (h : Fin 8) (k : Fin 2) (q g : Fin 4096), Score (refScore dq dk (ix5 b h k q g)) := fun b h k q g => by
    rw [refScore_real hq hk]
    split
    · exact Or.inr ⟨_, rfl⟩
    · exact Or.inl rfl
  idx_vars i
  exact this _ _ _ _ _

/-- The softmax of real scores. -/
theorem refSoft_real (b : Fin 16) (h : Fin 8) (k : Fin 2) (q g : Fin 4096) :
    refSoft (refExpOf (refScore dq dk) (refMax (refScore dq dk))) (ix5 b h k q g) = ((er fq fk b h k q g / ∑ g' : Fin 4096, er fq fk b h k q g' : ℝ) : EReal) := by
  obtain ⟨m, hm⟩ := refMax_real (refScore dq dk) (refScore_score hq hk) b h k q q ⟨sr fq fk b h k q q, by rw [refScore_real hq hk, if_pos le_rfl]⟩
  have hx : ∀ g, refExpOf (refScore dq dk) (refMax (refScore dq dk)) (ix5 b h k q g) = ((er fq fk b h k q g * Real.exp (-m) : ℝ) : EReal) := fun g => by
    rw [refExpOf_at, hm, max_eq_right bot_le, refScore_real hq hk]
    unfold er
    by_cases hg : g.val ≤ q.val
    · rw [if_pos hg, if_pos hg, ← EReal.coe_sub, Ideal.exp_coe, ← Real.exp_add]; rfl
    · rw [if_neg hg, if_neg hg, EReal.bot_sub]; simp
  rw [refSoft_at]
  simp only [hx]
  have hp := Real.exp_pos (-m)
  rw [← coe_sum, ← Finset.sum_mul, div_real (mul_pos (er_pos fq fk b h k q) hp).ne', mul_div_mul_right _ _ hp.ne']

include hv

/-- The weighted values' difference. -/
theorem refOut_real (lam : FVec Ideal S_ .f32) (lr : ℝ) (hl : lam ix0 = (lr : EReal)) (b : Fin 16) (h : Fin 8) (q : Fin 4096) (e : Fin 128) :
    refOut dv (refDiff (refSoft (refExpOf (refScore dq dk) (refMax (refScore dq dk)))) lam) (ix4 b q h e)
      = ((orr fq fk fv b h 0 q e : ℝ) : EReal) - lam ix0 * ((orr fq fk fv b h 1 q e : ℝ) : EReal) := by
  rw [refOut_at]
  simp only [refDiff_at, refSoft_real hq hk, hl, hv]
  simp only [← EReal.coe_mul, ← EReal.coe_sub]
  rw [← coe_sum]
  congr 1
  unfold orr
  rw [Finset.sum_div, Finset.sum_div, Finset.mul_sum, ← Finset.sum_sub_distrib]
  refine Finset.sum_congr rfl fun g _ => ?_
  ring

/-- The reference's element, on real arguments. -/
theorem refTerm_real (l1 l2 l3 l4 : FVec Ideal S64 .f32) (nw : FVec Ideal S128 .f32) (lr : ℝ) (hl : refLam l1 l2 l3 l4 ix0 = (lr : EReal)) (b : Fin 16) (q : Fin 4096) (j : Fin 1024) :
    refTerm dq dk dv l1 l2 l3 l4 nw (ix3 b q j)
      = normAt (fun e => ((orr fq fk fv b ⟨j.val / 128, by omega⟩ 0 q e : ℝ) : EReal) - refLam l1 l2 l3 l4 ix0 * ((orr fq fk fv b ⟨j.val / 128, by omega⟩ 1 q e : ℝ) : EReal))
          (nw (ix1 ⟨j.val % 128, by omega⟩)) ⟨j.val % 128, by omega⟩ := by
  unfold refTerm
  rw [refFin_at]
  congr 1
  funext e
  exact refOut_real hq hk hv _ lr hl _ _ _ _

end

theorem refLam_real (l1 l2 l3 l4 : FVec Ideal S64 .f32) (h1 : ∀ i, ∃ r : ℝ, l1 i = r) (h2 : ∀ i, ∃ r : ℝ, l2 i = r) (h3 : ∀ i, ∃ r : ℝ, l3 i = r) (h4 : ∀ i, ∃ r : ℝ, l4 i = r) :
    ∃ lr : ℝ, refLam l1 l2 l3 l4 ix0 = (lr : EReal) := by
  choose f1 h1 using h1
  choose f2 h2 using h2
  choose f3 h3 using h3
  choose f4 h4 using h4
  have hc : ∃ r : ℝ, Ideal.ofBits .f32 0x3E4CCCCD#32 = (r : EReal) := ⟨_, by simp [Ideal.ofBits, Ideal.ieee]; rfl⟩
  obtain ⟨c, hc⟩ := hc
  refine ⟨Real.exp (∑ k : Fin 64, f1 (ix1 k) * f2 (ix1 k)) - Real.exp (∑ k : Fin 64, f3 (ix1 k) * f4 (ix1 k)) + c, ?_⟩
  rw [refLam_at, hc]
  simp only [h1, h2, h3, h4, ← EReal.coe_mul, ← coe_sum, Ideal.exp_coe, ← EReal.coe_sub, ← EReal.coe_add]

end

end Cert.Proof.Attn

end
-- ==== Proof.AttnEq.lean ====
/-
  The kernel's normalised sums are the reference's: powers of two of scores scaled by the logarithm of two are
  exponentials, and a head's masked 128 channels are its chain's 64.
-/
module
public import proofs.«01_k».proof.Proof.AttnPoint
public import proofs.«01_k».proof.Proof.AttnRef

@[expose] public section

set_option maxRecDepth 16384

noncomputable section

namespace Cert.Proof.Attn

open Idealize.ShloMosaic

/-- A masked sum over a head's 128 channels is the sum over its chain's 64. -/
theorem sum_half (k : ℕ) (hk : k < 2) (f : Fin 128 → ℝ) :
    (∑ d : Fin 128, if (d.val < 64 ↔ k = 0) then f d else 0) = ∑ d : Fin 64, f ⟨64 * k + d.val, by omega⟩ := by
  refine (Fin.sum_univ_add (a := 64) (b := 64) (fun d : Fin (64 + 64) => if (d.val < 64 ↔ k = 0) then f d else 0)).trans ?_
  obtain rfl | rfl : k = 0 ∨ k = 1 := by omega
  · rw [Finset.sum_eq_zero (s := Finset.univ) (f := fun i : Fin 64 => if ((Fin.natAdd 64 i).val < 64 ↔ (0 : ℕ) = 0) then f (Fin.natAdd 64 i) else 0) fun i _ => if_neg (by simp [Fin.val_natAdd]), add_zero]
    refine Finset.sum_congr rfl fun d _ => ?_
    rw [if_pos (by simp [Fin.val_castAdd])]
    congr 1
    exact Fin.ext (by simp [Fin.val_castAdd])
  · rw [Finset.sum_eq_zero (s := Finset.univ) (f := fun i : Fin 64 => if ((Fin.castAdd 64 i).val < 64 ↔ (1 : ℕ) = 0) then f (Fin.castAdd 64 i) else 0) fun i _ => if_neg (by simp [Fin.val_castAdd]), zero_add]
    refine Finset.sum_congr rfl fun d _ => ?_
    rw [if_pos (by simp [Fin.val_natAdd])]
    congr 1

/-- A power of two is an exponential. -/
theorem two_pow_div (x : ℝ) : (2 : ℝ) ^ (x / Real.log 2) = Real.exp x := by
  rw [Real.rpow_def_of_pos two_pos, mul_div_cancel₀ _ (Real.log_pos one_lt_two).ne']

section

variable (fq fk : Cert.ReferenceIdeal.S16x4096x8x2x64.Idx → ℝ) (fv : Cert.ReferenceIdeal.S16x4096x8x128.Idx → ℝ) (b i : Fin 16)

/-- The scaled queries of a block. -/
def qB (h : Fin 8) (d : Fin 128) (l : Fin 256) : ℝ :=
  fq (ix5 b ⟨256 * i.val + l.val, by omega⟩ h ⟨d.val / 64, by omega⟩ ⟨d.val % 64, by omega⟩) * (1 / 8 / Real.log 2)

/-- A batch's keys. -/
def kB (g : ℕ) (h : Fin 8) (d : Fin 128) : ℝ :=
  if hg : g < 4096 then fk (ix5 b ⟨g, hg⟩ h ⟨d.val / 64, by omega⟩ ⟨d.val % 64, by omega⟩) else 0

/-- A batch's values. -/
def vB (g : ℕ) (h : Fin 8) (e : Fin 128) : ℝ := if hg : g < 4096 then fv (ix4 b ⟨g, hg⟩ h e) else 0

theorem sg_eq (h : Fin 8) (k : Fin 2) (ch : Fin 16) (hch : ch.val = 2 * h.val + k.val) (l : Fin 256) (g : Fin 4096) :
    sg (qB fq b i) (kB fk b) ch l g.val = sr fq fk b h k ⟨256 * i.val + l.val, by omega⟩ g / Real.log 2 := by
  have hh : hd ch = h := Fin.ext (by show ch.val / 2 = h.val; omega)
  have hm : ch.val % 2 = k.val := by omega
  unfold sg
  rw [hh, hm]
  simp only [mul_ite, mul_zero]
  rw [sum_half k.val k.2 (fun d => kB fk b g.val h d * qB fq b i h d l)]
  unfold sr
  rw [Finset.sum_mul, Finset.sum_div]
  refine Finset.sum_congr rfl fun d _ => ?_
  have e1 : (⟨(64 * k.val + d.val) / 64, by omega⟩ : Fin 2) = k := Fin.ext (by show (64 * k.val + d.val) / 64 = k.val; omega)
  have e2 : (⟨(64 * k.val + d.val) % 64, by omega⟩ : Fin 64) = d := Fin.ext (by show (64 * k.val + d.val) % 64 = d.val; omega)
  unfold kB qB
  rw [dif_pos g.2]
  show fk (ix5 b g h ⟨(64 * k.val + d.val) / 64, _⟩ ⟨(64 * k.val + d.val) % 64, _⟩) * (fq (ix5 b _ h ⟨(64 * k.val + d.val) / 64, _⟩ ⟨(64 * k.val + d.val) % 64, _⟩) * _) = _
  rw [e1, e2]
  ring

theorem total_exp (h : Fin 8) (k : Fin 2) (ch : Fin 16) (hch : ch.val = 2 * h.val + k.val) (l : Fin 256) (w : ℕ → ℝ) :
    total (sg (qB fq b i) (kB fk b) ch l) w (256 * i.val + l.val) = ∑ g : Fin 4096, er fq fk b h k ⟨256 * i.val + l.val, by omega⟩ g * w g.val := by
  unfold total
  refine Finset.sum_congr rfl fun g _ => ?_
  unfold er
  by_cases hg : g.val ≤ 256 * i.val + l.val
  · rw [if_pos hg, if_pos hg, sg_eq fq fk b i h k ch hch l g, two_pow_div, mul_comm]
  · rw [if_neg hg, if_neg hg, zero_mul]

/-- A head's normalised sum is the reference's weighted mean. -/
theorem ratio_eq (h : Fin 8) (k : Fin 2) (ch : Fin 16) (hch : ch.val = 2 * h.val + k.val) (l : Fin 256) (e : Fin 128) :
    ratio (qB fq b i) (kB fk b) (vB fv b) ch l (256 * i.val + l.val) e = orr fq fk fv b h k ⟨256 * i.val + l.val, by omega⟩ e := by
  have hh : hd ch = h := Fin.ext (by show ch.val / 2 = h.val; omega)
  unfold ratio orr
  rw [total_exp fq fk b i h k ch hch, total_exp fq fk b i h k ch hch, hh]
  simp only [mul_one]
  have hv : ∀ g : Fin 4096, vB fv b g.val h e = fv (ix4 b g h e) := fun g => dif_pos g.2
  simp only [hv]

end

end Cert.Proof.Attn

end
-- ==== Proof.AttnStep.lean ====
/-
  The attention call's result array: what each grid point finds and stores, from real arguments.
-/
module
public import proofs.«01_k».proof.Proof.AttnPointOut
public import proofs.«01_k».proof.Proof.AttnRead
public import proofs.«01_k».proof.Proof.AttnEq
public import Idealize.ShloMosaic.Lib.WholeRead

@[expose] public section

set_option maxRecDepth 16384
set_option maxHeartbeats 2000000

noncomputable section

namespace Cert.Proof.Attn

open Cert.KernelIdeal Cert.KernelIdeal.Gen
open Idealize.ShloMosaic Idealize.ShloMosaic.TcCoe Idealize.ShloMosaic.Tactic Idealize.SL.Sem

theorem lt_N (t : Fin cfg0.N) : t.val < 256 := (idx t).2.2.2.2.2.2.2.2.2.2

variable (m : (ℓ : Loc nD τ sig) → Buf (Elt Ideal) ℓ) (c : Dev nD) {fq fk : Cert.ReferenceIdeal.S16x4096x8x2x64.Idx → ℝ} {fv : Cert.ReferenceIdeal.S16x4096x8x128.Idx → ℝ}
  (hq : ∀ i, m ((c : Thread nD τ).loc main_arg0) i = ((fq i : ℝ) : EReal)) (hk : ∀ i, m ((c : Thread nD τ).loc main_arg1) i = ((fk i : ℝ) : EReal)) (hv : ∀ i, m ((c : Thread nD τ).loc main_arg2) i = ((fv i : ℝ) : EReal))

/-- A grid point's batch, -/
def bOf (t : Fin cfg0.N) : Fin 16 := ⟨t.val / 16, by have := lt_N t; omega⟩

/-- and its block of queries. -/
def iOf (t : Fin cfg0.N) : Fin 16 := ⟨t.val % 16, by omega⟩

include hq in
theorem q_real (t : Fin cfg0.N) (h : Fin 8) (d : Fin 128) (l : Fin 256) : (win0_0.stage (cfg0.slots t 0)).view.read (Elt Ideal) ((hstage0_0 ((cfg0.slots t 0).cast nbuf0_0)).unread (iblk m c 0 t)) (ix5 0 0 h d l)
    = ((qB fq (bOf t) (iOf t) h d l : ℝ) : EReal) := by
  refine (congrFun ((hstage0_0 ((cfg0.slots t 0).cast nbuf0_0)).read_unread (iblk m c 0 t)) _).trans ?_
  rw [blk0 m c t (lt_N t), qScale_eq, hq]
  exact (EReal.coe_mul _ _).symm

include hq in
theorem qn_real (t : Fin cfg0.N) (i' : Fin 16) (hi : i'.val = min (t.val % 16 + 1) 15) (h : Fin 8) (d : Fin 128) (l : Fin 256) : (win0_1.stage (cfg0.slots t 1)).view.read (Elt Ideal) ((hstage0_1 ((cfg0.slots t 1).cast nbuf0_1)).unread (iblk m c 1 t)) (ix5 0 0 h d l)
    = ((qB fq (bOf t) i' h d l : ℝ) : EReal) := by
  obtain ⟨i', hi'⟩ := i'
  change i' = min (t.val % 16 + 1) 15 at hi
  subst hi
  refine (congrFun ((hstage0_1 ((cfg0.slots t 1).cast nbuf0_1)).read_unread (iblk m c 1 t)) _).trans ?_
  rw [blk1 m c t (lt_N t), qScale_eq, hq]
  exact (EReal.coe_mul _ _).symm

include hk in
theorem k_real (t : Fin cfg0.N) (g : Fin 4096) (h : Fin 8) (d : Fin 128) : (win0_2.stage (cfg0.slots t 2)).view.read (Elt Ideal) ((hstage0_2 ((cfg0.slots t 2).cast nbuf0_2)).unread (iblk m c 2 t)) (ix3 0 g ⟨128 * h.val + d.val, by omega⟩)
    = ((kB fk (bOf t) g.val h d : ℝ) : EReal) := by
  refine (congrFun ((hstage0_2 ((cfg0.slots t 2).cast nbuf0_2)).read_unread (iblk m c 2 t)) _).trans ?_
  rw [blk2 m c t (lt_N t), hk]
  unfold kB
  rw [dif_pos g.2]
  rfl

include hv in
theorem v_real (t : Fin cfg0.N) (n : Fin 16) (h : Fin 8) (e : Fin 128) (p : Fin 256) : (win0_3.stage (cfg0.slots t 3)).view.read (Elt Ideal) ((hstage0_3 ((cfg0.slots t 3).cast nbuf0_3)).unread (iblk m c 3 t)) (ix5 0 n h e p)
    = ((vB fv (bOf t) (256 * n.val + p.val) h e : ℝ) : EReal) := by
  refine (congrFun ((hstage0_3 ((cfg0.slots t 3).cast nbuf0_3)).read_unread (iblk m c 3 t)) _).trans ?_
  rw [blk3 m c t (lt_N t), hv]
  unfold vB
  rw [dif_pos (by omega)]
  rfl

include hq hk hv in
/-- What a grid point's windows hold. -/
theorem reads (t : Fin cfg0.N) : Reads (qB fq (bOf t) (iOf t)) (kB fk (bOf t)) (vB fv (bOf t))
    (win0_0.stage (cfg0.slots t 0)).view ((hstage0_0 ((cfg0.slots t 0).cast nbuf0_0)).unread (iblk m c 0 t))
    (win0_2.stage (cfg0.slots t 2)).view ((hstage0_2 ((cfg0.slots t 2).cast nbuf0_2)).unread (iblk m c 2 t))
    (win0_3.stage (cfg0.slots t 3)).view ((hstage0_3 ((cfg0.slots t 3).cast nbuf0_3)).unread (iblk m c 3 t)) where
  q := q_real m c hq t
  k := k_real m c hk t
  v := v_real m c hv t

include hq hk in
/-- The scores a point that opens no batch finds are its own block's against the first keys. -/
theorem sc_real (t : Fin cfg0.N) (h0 : t.val % 16 ≠ 0) (ch : Fin 16) (j : Fin 512) (l : Fin 256) :
    row14 (Memref.whole cc0_scratch1).view (sc m c t.val) ch (ix3 0 j l) = ((sg (qB fq (bOf t) (iOf t)) (kB fk (bOf t)) ch l j.val : ℝ) : EReal) := by
  obtain ⟨n, hn⟩ := t
  cases n with
  | zero => exact absurd rfl h0
  | succ n =>
    have hn' : n < cfg0.N := Nat.lt_of_succ_lt hn
    generalize ht : (⟨n, hn'⟩ : Fin cfg0.N) = t
    have hv : n = t.val := congrArg Fin.val ht
    have h256 := lt_N ⟨n + 1, hn⟩
    change (n + 1) % 16 ≠ 0 at h0
    change n + 1 < 256 at h256
    have hb : bOf ⟨n + 1, hn⟩ = bOf t := Fin.ext (by show (n + 1) / 16 = t.val / 16; omega)
    show row14 (Memref.whole cc0_scratch1).view (sc m c (n + 1)) ch (ix3 0 j l) = _
    rw [hb, show sc m c (n + 1) = sc m c (t.val + 1) from by rw [hv], sc_succ m c t]
    unfold pt14
    rw [runAt_sc c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) _ _ ch]
    refine scores_real _ _ j l (fun d => kB fk (bOf t) j.val (hd ch) d) _ (fun d => ?_) (fun d => ?_)
    · rw [kFirst_at]
      exact k_real m c hk t ⟨j.val, by omega⟩ (hd ch) d
    · exact qAll_real _ _ (qB fq (bOf t) (iOf ⟨n + 1, hn⟩)) (qn_real m c hq t (iOf ⟨n + 1, hn⟩) (by show (n + 1) % 16 = min (t.val % 16 + 1) 15; omega)) ch d l

include hq hk hv in
/-- The output block a point stores. -/
theorem out_real (t : Fin cfg0.N) (h : Fin 8) (l : Fin 256) (e : Fin 128) :
    out12 m c t (ix3 0 l ⟨128 * h.val + e.val, by omega⟩)
      = outAt (qB fq (bOf t) (iOf t)) (kB fk (bOf t)) (vB fv (bOf t))
          (lamOf (win0_4.stage (cfg0.slots t 4)).view (win0_5.stage (cfg0.slots t 5)).view (win0_6.stage (cfg0.slots t 6)).view (win0_7.stage (cfg0.slots t 7)).view
            ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) (ix2 0 0))
          (fun e => nwOf (win0_8.stage (cfg0.slots t 8)).view ((hstage0_8 ((cfg0.slots t 8).cast nbuf0_8)).unread (iblk m c 8 t)) (ix2 e 0)) (256 * (t.val % 16) + l.val) h l e := by
  unfold out12 pt12
  exact runAt_out c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) _ _ (reads m c hq hk hv t) (fun h0 => sc_real m c hq hk t h0) h l e

theorem col_idx (e : Fin 128) : (Rect.unit (s := S128x1) ![0, 0] S128x1.size inb_S128x1_S128x1_0_0).toLoadRect.idx (ix2 e 0) = (ix2 e 0 : S128x1.Idx) := by
  funext a
  match a with
  | ⟨0, _⟩ => exact Fin.ext (by show 0 + 1 * e.val = e.val; omega)
  | ⟨1, _⟩ => exact Fin.ext rfl

theorem row_idx (k : Fin 64) : (Rect.unit (s := S1x64) ![0, 0] S1x64.size inb_S1x64_S1x64_0_0).toLoadRect.idx (ix2 0 k) = (ix2 0 k : S1x64.Idx) := by
  funext a
  match a with
  | ⟨0, _⟩ => exact Fin.ext rfl
  | ⟨1, _⟩ => exact Fin.ext (by show 0 + 1 * k.val = k.val; omega)

/-- The gain a point reads. -/
theorem nw_at (t : Fin cfg0.N) (e : Fin 128) : nwOf (win0_8.stage (cfg0.slots t 8)).view ((hstage0_8 ((cfg0.slots t 8).cast nbuf0_8)).unread (iblk m c 8 t)) (ix2 e 0)
    = m ((c : Thread nD τ).loc main_arg7) (ix1 e) := by
  unfold nwOf
  rw [Memref.IsWhole.readAt_unread]
  rw [← blk8 m c t e]
  exact congrArg _ (col_idx e)

/-- The weight of the second softmax, from the rows a point reads. -/
theorem lam_pay (x1 x2 x3 x4 : FVec Ideal S1x64 .f32) : k0_pay542 (F := Ideal) x1 x2 x3 x4 (ix2 0 0)
    = Ideal.exp (∑ k : Fin 64, x1 (ix2 0 k) * x2 (ix2 0 k)) - Ideal.exp (∑ k : Fin 64, x3 (ix2 0 k) * x4 (ix2 0 k)) + Ideal.ofBits .f32 0x3E4CCCCD#32 := by
  pointwise [k0_pay542]

/-- The weight of the second softmax a point computes is the reference's. -/
theorem lam_at (t : Fin cfg0.N) : lamOf (win0_4.stage (cfg0.slots t 4)).view (win0_5.stage (cfg0.slots t 5)).view (win0_6.stage (cfg0.slots t 6)).view (win0_7.stage (cfg0.slots t 7)).view
            ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) (ix2 0 0)
    = refLam (m ((c : Thread nD τ).loc main_arg3)) (m ((c : Thread nD τ).loc main_arg4)) (m ((c : Thread nD τ).loc main_arg5)) (m ((c : Thread nD τ).loc main_arg6)) ix0 := by
  unfold lamOf
  rw [lam_pay, refLam_at]
  have e4 : ∀ k : Fin 64, View.readAt (Elt Ideal) (win0_4.stage (cfg0.slots t 4)).view (Rect.unit (s := S1x64) ![0, 0] S1x64.size inb_S1x64_S1x64_0_0).toLoadRect ((hstage0_4 ((cfg0.slots t 4).cast nbuf0_4)).unread (iblk m c 4 t)) (ix2 0 k) = m ((c : Thread nD τ).loc main_arg3) (ix1 k) := fun k => by
    rw [Memref.IsWhole.readAt_unread, ← blk4 m c t k]; exact congrArg _ (row_idx k)
  have e5 : ∀ k : Fin 64, View.readAt (Elt Ideal) (win0_5.stage (cfg0.slots t 5)).view (Rect.unit (s := S1x64) ![0, 0] S1x64.size inb_S1x64_S1x64_0_0).toLoadRect ((hstage0_5 ((cfg0.slots t 5).cast nbuf0_5)).unread (iblk m c 5 t)) (ix2 0 k) = m ((c : Thread nD τ).loc main_arg4) (ix1 k) := fun k => by
    rw [Memref.IsWhole.readAt_unread, ← blk5 m c t k]; exact congrArg _ (row_idx k)
  have e6 : ∀ k : Fin 64, View.readAt (Elt Ideal) (win0_6.stage (cfg0.slots t 6)).view (Rect.unit (s := S1x64) ![0, 0] S1x64.size inb_S1x64_S1x64_0_0).toLoadRect ((hstage0_6 ((cfg0.slots t 6).cast nbuf0_6)).unread (iblk m c 6 t)) (ix2 0 k) = m ((c : Thread nD τ).loc main_arg5) (ix1 k) := fun k => by
    rw [Memref.IsWhole.readAt_unread, ← blk6 m c t k]; exact congrArg _ (row_idx k)
  have e7 : ∀ k : Fin 64, View.readAt (Elt Ideal) (win0_7.stage (cfg0.slots t 7)).view (Rect.unit (s := S1x64) ![0, 0] S1x64.size inb_S1x64_S1x64_0_0).toLoadRect ((hstage0_7 ((cfg0.slots t 7).cast nbuf0_7)).unread (iblk m c 7 t)) (ix2 0 k) = m ((c : Thread nD τ).loc main_arg6) (ix1 k) := fun k => by
    rw [Memref.IsWhole.readAt_unread, ← blk7 m c t k]; exact congrArg _ (row_idx k)
  simp only [e4, e5, e6, e7]

end Cert.Proof.Attn

end
-- ==== Proof.AttnValue.lean ====
/-
  The attention call's result array after the run is the reference's, for real queries, keys, values and weights.
-/
module
public import proofs.«01_k».proof.Proof.AttnStep

@[expose] public section

set_option maxRecDepth 16384
set_option maxHeartbeats 2000000

noncomputable section

namespace Cert.Proof.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD) {fq fk : Cert.ReferenceIdeal.S16x4096x8x2x64.Idx → ℝ} {fv : Cert.ReferenceIdeal.S16x4096x8x128.Idx → ℝ}
  (hq : ∀ i, m ((c : Thread nD τ).loc main_arg0) i = ((fq i : ℝ) : EReal)) (hk : ∀ i, m ((c : Thread nD τ).loc main_arg1) i = ((fk i : ℝ) : EReal)) (hv : ∀ i, m ((c : Thread nD τ).loc main_arg2) i = ((fv i : ℝ) : EReal))
  (lr : ℝ) (hl : refLam (m ((c : Thread nD τ).loc main_arg3)) (m ((c : Thread nD τ).loc main_arg4)) (m ((c : Thread nD τ).loc main_arg5)) (m ((c : Thread nD τ).loc main_arg6)) ix0 = (lr : EReal))

include hq hk hv hl in
/-- A point's output block at an index is the reference's result there. -/
theorem out_ref (t : Fin cfg0.N) (l : Fin 256) (j : Fin 1024) :
    out12 m c t (ix3 0 l j)
      = refTerm (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (ix3 (bOf t) ⟨256 * (t.val % 16) + l.val, by omega⟩ j) := by
  rw [refTerm_real hq hk hv _ _ _ _ _ lr hl]
  obtain ⟨h, e, rfl⟩ : ∃ (h : Fin 8) (e : Fin 128), j = ⟨128 * h.val + e.val, by omega⟩ :=
    ⟨⟨j.val / 128, by omega⟩, ⟨j.val % 128, by omega⟩, Fin.ext (by show j.val = 128 * (j.val / 128) + j.val % 128; omega)⟩
  rw [out_real m c hq hk hv t h l e, lam_at]
  have hh : (⟨(128 * h.val + e.val) / 128, by omega⟩ : Fin 8) = h := Fin.ext (by show (128 * h.val + e.val) / 128 = h.val; omega)
  have he : (⟨(128 * h.val + e.val) % 128, by omega⟩ : Fin 128) = e := Fin.ext (by show (128 * h.val + e.val) % 128 = e.val; omega)
  unfold outAt
  have r0 := ratio_eq fq fk fv (bOf t) (iOf t) h 0 ⟨2 * h.val, by omega⟩ rfl l
  have r1 := ratio_eq fq fk fv (bOf t) (iOf t) h 1 ⟨2 * h.val + 1, by omega⟩ rfl l
  simp only [hh, he]
  congr 1
  case e_w => exact nw_at m c t e
  funext e'
  exact congrArg₂ (fun x y : EReal => x - refLam _ _ _ _ ix0 * y) (congrArg _ (r0 e')) (congrArg _ (r1 e'))

include hq hk hv hl in
/-- The result array after the run. -/
theorem final : (dats m 0 c).arrAt 9 (cfgs 0).N
    = refTerm (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  idx_vars y
  obtain rfl : y0 = 0 := Subsingleton.elim _ _
  have ht := lt_N t
  have he : ((View.whole main_v20).slice (win0_9.rect t)).emb (ix3 0 y1 y2) = ix3 (bOf t) (⟨256 * (t.val % 16) + y1.val, by omega⟩ : Fin 4096) y2 := by
    unfold bOf
    blk_ext [idx t]
  rw [he]
  exact out_ref m c hq hk hv lr hl t y1 y2

end Cert.Proof.Attn

end
-- ==== Proof.AttnFinite.lean ====
/-
  What the precondition of the attention call gives: every entry of the seven arrays it names is a real number.
-/
module
public import Idealize.ShloMosaic.Lib.ReduceAll
public import Idealize.ShloMosaic.PureOps.Ideal
public import proofs.«01_k».proof.Pre_finite_inputs

@[expose] public section

set_option maxRecDepth 16384

noncomputable section

namespace Cert.Proof.Attn

open Idealize.ShloMosaic

/-- A number whose size is less than infinity is real. -/
theorem real_of_lt (x : EReal) (h : Ideal.cmp .olt (max x (-x)) (Ideal.ofBits .f32 0x7F800000#32) = 1#1) : ∃ r : ℝ, x = ((r : ℝ) : EReal) := by
  have htop : Ideal.ofBits .f32 0x7F800000#32 = (⊤ : EReal) := by
    simp [Ideal.ofBits, Ideal.ieee]
  rw [htop] at h
  have hlt : max x (-x) < (⊤ : EReal) := by
    by_contra hc
    simp [Ideal.cmp, hc] at h
  induction x with
  | bot => simp at hlt
  | top => simp at hlt
  | coe r => exact ⟨r, rfl⟩

/-- An array whose entries are all found finite holds real numbers. -/
theorem real_of_all {s : Shape} {axes : List (Fin s.rank)} (x : FVec Ideal s .f32) (hb : Cert.Pre_finite_inputs.S_.BroadcastsInDim s (![] : Fin 0 → Fin s.rank))
    (h : s.ReducesTo axes Cert.Pre_finite_inputs.S_) (hu : 0 < Cert.Pre_finite_inputs.S_.numel) (init : IVec Cert.Pre_finite_inputs.S_ 1) (j : Cert.Pre_finite_inputs.S_.Idx)
    (e : Host.reduce IntOp.andi (cmpf .olt (Host.absf x) (broadcastInDim s ![] hb (constant (F := Ideal) Cert.Pre_finite_inputs.S_ .f32 0x7F800000#32))) init h hu j = 1#1) :
    ∀ i, ∃ r : ℝ, x i = ((r : ℝ) : EReal) := fun i => by
  haveI : Subsingleton Cert.Pre_finite_inputs.S_.Idx := ⟨fun a b => funext fun k => k.elim0⟩
  exact real_of_lt (x i) (Host.reduce_andi_all _ init h hu j e i)

/-- The precondition read back. -/
theorem finite_of [Cert.Pre_finite_inputs.Facts] (a0 a1 : FVec Ideal Cert.Pre_finite_inputs.S16x4096x8x2x64 .f32) (a2 : FVec Ideal Cert.Pre_finite_inputs.S16x4096x8x128 .f32)
    (a3 a4 a5 a6 : FVec Ideal Cert.Pre_finite_inputs.S64 .f32) (a7 : FVec Ideal Cert.Pre_finite_inputs.S128 .f32)
    (h : Cert.Pre_finite_inputs.fn (F := Ideal) a0 a1 a2 a3 a4 a5 a6 a7 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
      ∧ (∀ i, ∃ r : ℝ, a3 i = ((r : ℝ) : EReal)) ∧ (∀ i, ∃ r : ℝ, a4 i = ((r : ℝ) : EReal)) ∧ (∀ i, ∃ r : ℝ, a5 i = ((r : ℝ) : EReal))
      ∧ (∀ i, ∃ r : ℝ, a6 i = ((r : ℝ) : EReal)) := by
  have h' := congrFun h (fun k => k.elim0)
  unfold Cert.Pre_finite_inputs.fn Cert.Pre_finite_inputs.fn_part1 at h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨real_of_all a0 _ _ _ _ _ h0, real_of_all a1 _ _ _ _ _ h1, real_of_all a2 _ _ _ _ _ h2, real_of_all a3 _ _ _ _ _ h3,
    real_of_all a4 _ _ _ _ _ h4, real_of_all a5 _ _ _ _ _ h5, real_of_all a6 _ _ _ _ _ h6⟩

end Cert.Proof.Attn

end
-- ==== Proof.Attn.lean ====
/- The attention call's value claim. -/
module

public import proofs.«01_k».proof.Defs
public import proofs.«01_k».proof.Proof.AttnClaims
public import proofs.«01_k».proof.Proof.AttnValue
public import proofs.«01_k».proof.Proof.AttnFinite

@[expose] public section

set_option maxRecDepth 16384
set_option maxHeartbeats 2000000

noncomputable section

open Idealize.ShloMosaic Idealize.ShloMosaic.TcCoe Idealize.SL.Sem

namespace Cert.Proof.Attn

variable [hP : Cert.Pre_finite_inputs.Facts]

/-- The idealized program's frame, under the precondition. -/
theorem frame_ki_pre : Cert.quiescent_KernelIdeal_pre_finite_inputs := fun m ρ _ => Cert.Proof.Attn.frame_all m ρ

/-- The reference's, under the precondition. -/
theorem frame_ri_pre : Cert.quiescent_ReferenceIdeal_pre_finite_inputs := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The result array of real arguments is the reference's. -/
theorem final_of_pre (m : (ℓ : Loc Cert.KernelIdeal.nD Cert.KernelIdeal.τ Cert.KernelIdeal.sig) → Buf (Elt Ideal) ℓ) (hpre : Cert.Pre_KernelIdeal_finite_inputs m) (c : Dev Cert.KernelIdeal.nD) :
    (dats m 0 c).arrAt 9 (Cert.KernelIdeal.cfgs 0).N
    = refTerm (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) := by
  obtain ⟨h0, h1, h2, h3, h4, h5, h6⟩ := finite_of _ _ _ _ _ _ _ _ (hpre c)
  obtain ⟨fq, hq⟩ := Classical.skolem.1 h0
  obtain ⟨fk, hk⟩ := Classical.skolem.1 h1
  obtain ⟨fv, hv⟩ := Classical.skolem.1 h2
  obtain ⟨lr, hl⟩ := refLam_real _ _ _ _ h3 h4 h5 h6
  exact final m c hq hk hv lr hl

omit hP in
/-- The reference's result is the term of its arguments. -/
theorem res_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v54 (F := Ideal) m' c
    = refTerm (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) := by
  delta Cert.ReferenceIdeal.Value.res_main_v54 refTerm
  delta refFin refOut refDiff refSoft refExpOf refMax refScore refLam
  rfl

/-- Kernel and reference end with the same result on finite arguments that agree. -/
theorem value : Cert.algebraic_KernelIdeal_ReferenceIdeal_pre_finite_inputs := by
  pair_intro
  · run_from Cert.Proof.Attn.run_main m g
  · run_from Cert.ReferenceIdeal.Value.run (F := Ideal) m' g'
    obtain ⟨a0, a1, a2, a3, a4, a5, a6, a7⟩ := hagree c
    refine (res_eq m' c).trans (Eq.trans ?_ (final_of_pre m hpre c).symm)
    rw [a0, a1, a2, a3, a4, a5, a6, a7]

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Mlp
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.ReferenceIdeal.Run
public import proofs.«01_k».proof.Proof.Merge
public import proofs.«01_k».proof.Proof.AttnClaims
public import proofs.«01_k».proof.Proof.Attn
public import proofs.«01_k».proof.Proof.Gen.Pre_finite_inputs
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_inputs.Gen.facts,
  Attn.frame_k, Attn.frame_ki, Attn.frame_ki_pre, Attn.frame_ri, Attn.frame_ri_pre, Mlp.frame_k, Mlp.frame_ki, Mlp.frame_ri, Merge.frame_k, Merge.frame_ki, Merge.frame_ri,
  Attn.preserves_k, Attn.value, trivial, Mlp.value, trivial, Merge.value⟩

end Cert.Proof

end
